-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 8, 64]⟩ ⟨4, ![2, 4096, 8, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x8x64 : Shape := ⟨4, ![2, 128, 8, 64]⟩
abbrev S16x128x64 : Shape := ⟨3, ![16, 128, 64]⟩
abbrev S2x16x128 : Shape := ⟨3, ![2, 16, 128]⟩
abbrev S5x16x128x64 : Shape := ⟨4, ![5, 16, 128, 64]⟩
abbrev S5x2x16x128 : Shape := ⟨4, ![5, 2, 16, 128]⟩
abbrev S256x512 : Shape := ⟨2, ![256, 512]⟩
abbrev S5x4 : Shape := ⟨2, ![5, 4]⟩
abbrev S5 : Shape := ⟨1, ![5]⟩
abbrev S_ : Shape := ⟨0, ![]⟩
abbrev S128x512 : Shape := ⟨2, ![128, 512]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1x128x64 : Shape := ⟨3, ![1, 128, 64]⟩
abbrev S1x1x128 : Shape := ⟨3, ![1, 1, 128]⟩
abbrev S1x1 : Shape := ⟨2, ![1, 1]⟩
abbrev S1x4x128x64 : Shape := ⟨4, ![1, 4, 128, 64]⟩
abbrev S4x128x64 : Shape := ⟨3, ![4, 128, 64]⟩
abbrev S1 : Shape := ⟨1, ![1]⟩
abbrev S1x2x16x128 : Shape := ⟨4, ![1, 2, 16, 128]⟩
abbrev S1x16x128 : Shape := ⟨3, ![1, 16, 128]⟩
abbrev S16x128 : Shape := ⟨2, ![16, 128]⟩
abbrev S1x1x16x128 : Shape := ⟨4, ![1, 1, 16, 128]⟩
abbrev S4x128 : Shape := ⟨2, ![4, 128]⟩
abbrev S4x128x1 : Shape := ⟨3, ![4, 128, 1]⟩
abbrev S8x128x64 : Shape := ⟨3, ![8, 128, 64]⟩
abbrev S8x128 : Shape := ⟨2, ![8, 128]⟩
abbrev S8x128x1 : Shape := ⟨3, ![8, 128, 1]⟩
abbrev S1x128x512 : Shape := ⟨3, ![1, 128, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x8x64, .f32⟩
  | .hbm, ⟨3, _⟩ => ⟨S2x128x8x64, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x8x64, .f32⟩
  | .local _ .vmem, ⟨4, _⟩ => ⟨S2x128x8x64, .f32⟩
  | .local _ .vmem, ⟨5, _⟩ => ⟨S2x128x512, .f32⟩
  | .local _ .vmem, ⟨6, _⟩ => ⟨S16x128x64, .bf16⟩
  | .local _ .vmem, ⟨7, _⟩ => ⟨S2x16x128, .f32⟩
  | .local _ .vmem, ⟨8, _⟩ => ⟨S5x16x128x64, .bf16⟩
  | .local _ .vmem, ⟨9, _⟩ => ⟨S5x2x16x128, .f32⟩
  | .local _ .vmem, ⟨10, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v22 : BitVec 32 := Scalar.xori v2 c1_i32_17
  let c1_i32_198 : BitVec 32 := 1#32
  let v231 : BitVec 32 := Scalar.muli v22 c1_i32_198
  let v232 : BitVec 32 := Scalar.addi c0_i32_199 v231
  v232.toNat
def k0_dev7 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v22 : BitVec 32 := Scalar.xori v2 c1_i32_17
  let c1_i32_211 : BitVec 32 := 1#32
  let v240 : BitVec 32 := Scalar.muli v22 c1_i32_211
  let v241 : BitVec 32 := Scalar.addi c0_i32_212 v240
  v241.toNat
def k0_dev8 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v22 : BitVec 32 := Scalar.xori v2 c1_i32_17
  let c1_i32_393 : BitVec 32 := 1#32
  let v453 : BitVec 32 := Scalar.muli v22 c1_i32_393
  let v454 : BitVec 32 := Scalar.addi c0_i32_394 v453
  v454.toNat
def k0_dev9 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v22 : BitVec 32 := Scalar.xori v2 c1_i32_17
  let c1_i32_403 : BitVec 32 := 1#32
  let v461 : BitVec 32 := Scalar.muli v22 c1_i32_403
  let v462 : BitVec 32 := Scalar.addi c0_i32_404 v461
  v462.toNat
def k0_dev10 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v22 : BitVec 32 := Scalar.xori v2 c1_i32_17
  let c1_i32_415 : BitVec 32 := 1#32
  let v470 : BitVec 32 := Scalar.muli v22 c1_i32_415
  let v471 : BitVec 32 := Scalar.addi c0_i32_416 v470
  v471.toNat
def k0_dev11 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v23 : BitVec 32 := Scalar.xori v2 c2_i32_18
  let c1_i32_460 : BitVec 32 := 1#32
  let v511 : BitVec 32 := Scalar.muli v23 c1_i32_460
  let v512 : BitVec 32 := Scalar.addi c0_i32_461 v511
  v512.toNat
def k0_dev12 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v23 : BitVec 32 := Scalar.xori v2 c2_i32_18
  let c1_i32_505 : BitVec 32 := 1#32
  let v549 : BitVec 32 := Scalar.muli v23 c1_i32_505
  let v550 : BitVec 32 := Scalar.addi c0_i32_506 v549
  v550.toNat
def k0_dev13 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v23 : BitVec 32 := Scalar.xori v2 c2_i32_18
  let c1_i32_553 : BitVec 32 := 1#32
  let v588 : BitVec 32 := Scalar.muli v23 c1_i32_553
  let v589 : BitVec 32 := Scalar.addi c0_i32_554 v588
  v589.toNat
def k0_dev14 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v23 : BitVec 32 := Scalar.xori v2 c2_i32_18
  let c1_i32_601 : BitVec 32 := 1#32
  let v627 : BitVec 32 := Scalar.muli v23 c1_i32_601
  let v628 : BitVec 32 := Scalar.addi c0_i32_602 v627
  v628.toNat
def k0_dev15 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_18 : BitVec 32 := 2#32
  let v23 : BitVec 32 := Scalar.xori v2 c2_i32_18
  let c1_i32_649 : BitVec 32 := 1#32
  let v666 : BitVec 32 := Scalar.muli v23 c1_i32_649
  let v667 : BitVec 32 := Scalar.addi c0_i32_650 v666
  v667.toNat
def k0_dev16 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_19 : BitVec 32 := 4#32
  let v24 : BitVec 32 := Scalar.xori v2 c4_i32_19
  let c1_i32_695 : BitVec 32 := 1#32
  let v707 : BitVec 32 := Scalar.muli v24 c1_i32_695
  let v708 : BitVec 32 := Scalar.addi c0_i32_696 v707
  v708.toNat
def k0_dev17 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_19 : BitVec 32 := 4#32
  let v24 : BitVec 32 := Scalar.xori v2 c4_i32_19
  let c1_i32_740 : BitVec 32 := 1#32
  let v745 : BitVec 32 := Scalar.muli v24 c1_i32_740
  let v746 : BitVec 32 := Scalar.addi c0_i32_741 v745
  v746.toNat
def k0_dev18 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_19 : BitVec 32 := 4#32
  let v24 : BitVec 32 := Scalar.xori v2 c4_i32_19
  let c1_i32_788 : BitVec 32 := 1#32
  let v784 : BitVec 32 := Scalar.muli v24 c1_i32_788
  let v785 : BitVec 32 := Scalar.addi c0_i32_789 v784
  v785.toNat
def k0_dev19 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_19 : BitVec 32 := 4#32
  let v24 : BitVec 32 := Scalar.xori v2 c4_i32_19
  let c1_i32_836 : BitVec 32 := 1#32
  let v823 : BitVec 32 := Scalar.muli v24 c1_i32_836
  let v824 : BitVec 32 := Scalar.addi c0_i32_837 v823
  v824.toNat
def k0_dev20 (d0 : Dev nD) : Nat :=
  let c0_i32_885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_19 : BitVec 32 := 4#32
  let v24 : BitVec 32 := Scalar.xori v2 c4_i32_19
  let c1_i32_884 : BitVec 32 := 1#32
  let v862 : BitVec 32 := Scalar.muli v24 c1_i32_884
  let v863 : BitVec 32 := Scalar.addi c0_i32_885 v862
  v863.toNat
def k0_dev21 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v25 : BitVec 32 := Scalar.xori v2 c8_i32_20
  let c1_i32_930 : BitVec 32 := 1#32
  let v903 : BitVec 32 := Scalar.muli v25 c1_i32_930
  let v904 : BitVec 32 := Scalar.addi c0_i32_931 v903
  v904.toNat
def k0_dev22 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v25 : BitVec 32 := Scalar.xori v2 c8_i32_20
  let c1_i32_975 : BitVec 32 := 1#32
  let v941 : BitVec 32 := Scalar.muli v25 c1_i32_975
  let v942 : BitVec 32 := Scalar.addi c0_i32_976 v941
  v942.toNat
def k0_dev23 (d0 : Dev nD) : Nat :=
  let c0_i32_1024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v25 : BitVec 32 := Scalar.xori v2 c8_i32_20
  let c1_i32_1023 : BitVec 32 := 1#32
  let v980 : BitVec 32 := Scalar.muli v25 c1_i32_1023
  let v981 : BitVec 32 := Scalar.addi c0_i32_1024 v980
  v981.toNat
def k0_dev24 (d0 : Dev nD) : Nat :=
  let c0_i32_1072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v25 : BitVec 32 := Scalar.xori v2 c8_i32_20
  let c1_i32_1071 : BitVec 32 := 1#32
  let v1019 : BitVec 32 := Scalar.muli v25 c1_i32_1071
  let v1020 : BitVec 32 := Scalar.addi c0_i32_1072 v1019
  v1020.toNat
def k0_dev25 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_20 : BitVec 32 := 8#32
  let v25 : BitVec 32 := Scalar.xori v2 c8_i32_20
  let c1_i32_1119 : BitVec 32 := 1#32
  let v1058 : BitVec 32 := Scalar.muli v25 c1_i32_1119
  let v1059 : BitVec 32 := Scalar.addi c0_i32_1120 v1058
  v1059.toNat
def k0_dev26 (d0 : Dev nD) : Nat :=
  let c0_i32_1166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_21 : BitVec 32 := 16#32
  let v26 : BitVec 32 := Scalar.xori v2 c16_i32_21
  let c1_i32_1165 : BitVec 32 := 1#32
  let v1099 : BitVec 32 := Scalar.muli v26 c1_i32_1165
  let v1100 : BitVec 32 := Scalar.addi c0_i32_1166 v1099
  v1100.toNat
def k0_dev27 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_21 : BitVec 32 := 16#32
  let v26 : BitVec 32 := Scalar.xori v2 c16_i32_21
  let c1_i32_1210 : BitVec 32 := 1#32
  let v1137 : BitVec 32 := Scalar.muli v26 c1_i32_1210
  let v1138 : BitVec 32 := Scalar.addi c0_i32_1211 v1137
  v1138.toNat
def k0_dev28 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_21 : BitVec 32 := 16#32
  let v26 : BitVec 32 := Scalar.xori v2 c16_i32_21
  let c1_i32_1258 : BitVec 32 := 1#32
  let v1176 : BitVec 32 := Scalar.muli v26 c1_i32_1258
  let v1177 : BitVec 32 := Scalar.addi c0_i32_1259 v1176
  v1177.toNat
def k0_dev29 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_21 : BitVec 32 := 16#32
  let v26 : BitVec 32 := Scalar.xori v2 c16_i32_21
  let c1_i32_1306 : BitVec 32 := 1#32
  let v1215 : BitVec 32 := Scalar.muli v26 c1_i32_1306
  let v1216 : BitVec 32 := Scalar.addi c0_i32_1307 v1215
  v1216.toNat
def k0_dev30 (d0 : Dev nD) : Nat :=
  let c0_i32_1355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_21 : BitVec 32 := 16#32
  let v26 : BitVec 32 := Scalar.xori v2 c16_i32_21
  let c1_i32_1354 : BitVec 32 := 1#32
  let v1254 : BitVec 32 := Scalar.muli v26 c1_i32_1354
  let v1255 : BitVec 32 := Scalar.addi c0_i32_1355 v1254
  v1255.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x512 : Shape := ⟨2, ![512, 512]⟩
abbrev S2x4096x8x64 : Shape := ⟨4, ![2, 4096, 8, 64]⟩
abbrev S2x128x8x64 : Shape := ⟨4, ![2, 128, 8, 64]⟩
abbrev S_ : Shape := ⟨0, ![]⟩
abbrev S2x8x128x1 : Shape := ⟨4, ![2, 8, 128, 1]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x128x8x1 : Shape := ⟨4, ![2, 128, 8, 1]⟩
abbrev S2x8x64x128 : Shape := ⟨4, ![2, 8, 64, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x4096x8x64, .f32⟩
  | .hbm, ⟨3, _⟩ => ⟨S2x4096x8x64, .f32⟩
  | .hbm, ⟨4, _⟩ => ⟨S512x512, .f32⟩
  | .hbm, ⟨5, _⟩ => ⟨S2x128x512, .f32⟩
  | .hbm, ⟨6, _⟩ => ⟨S2x128x8x64, .f32⟩
  | .hbm, ⟨7, _⟩ => ⟨S_, .f32⟩
  | .hbm, ⟨8, _⟩ => ⟨S2x128x8x64, .f32⟩
  | .hbm, ⟨9, _⟩ => ⟨S_, .f32⟩
  | .hbm, ⟨10, _⟩ => ⟨S2x8x128x1, .f32⟩
  | .hbm, ⟨11, _⟩ => ⟨S_, .f32⟩
  | .hbm, ⟨12, _⟩ => ⟨S2x8x128x1, .f32⟩
  | .hbm, ⟨13, _⟩ => ⟨S2x1024x8x64, .f32⟩
  | .hbm, ⟨14, _⟩ => ⟨S2x1024x8x64, .f32⟩
  | .hbm, ⟨15, _⟩ => ⟨S2x8x128x1024, .f32⟩
  | .hbm, ⟨16, _⟩ => ⟨S_, .f32⟩
  | .hbm, ⟨17, _⟩ => ⟨S2x8x128x1024, .f32⟩
  | .hbm, ⟨18, _⟩ => ⟨S2x8x128x1024, .f32⟩
  | .hbm, ⟨19, _⟩ => ⟨S_, .f32⟩
  | .hbm, ⟨20, _⟩ => ⟨S2x8x128, .f32⟩
  | .hbm, ⟨21, _⟩ => ⟨S2x8x128x1, .f32⟩
  | .hbm, ⟨22, _⟩ => ⟨S2x8x128x1, .f32⟩
  | .hbm, ⟨23, _⟩ => ⟨S2x8x128x1, .f32⟩
  | .hbm, ⟨24, _⟩ => ⟨S2x8x128x1, .f32⟩
  | .hbm, ⟨25, _⟩ => ⟨S2x8x128x1024, .f32⟩
  | .hbm, ⟨26, _⟩ => ⟨S2x8x128x1024, .f32⟩
  | .hbm, ⟨27, _⟩ => ⟨S2x8x128x1024, .f32⟩
  | .hbm, ⟨28, _⟩ => ⟨S2x8x128x1, .f32⟩
  | .hbm, ⟨29, _⟩ => ⟨S_, .f32⟩
  | .hbm, ⟨30, _⟩ => ⟨S2x8x128, .f32⟩
  | .hbm, ⟨31, _⟩ => ⟨S2x8x128x1, .f32⟩
  | .hbm, ⟨32, _⟩ => ⟨S2x8x128x1, .f32⟩
  | .hbm, ⟨33, _⟩ => ⟨S2x128x8x1, .f32⟩
  | .hbm, ⟨34, _⟩ => ⟨S2x128x8x64, .f32⟩
  | .hbm, ⟨35, _⟩ => ⟨S2x128x8x64, .f32⟩
  | .hbm, ⟨36, _⟩ => ⟨S2x8x64x128, .f32⟩
  | .hbm, ⟨37, _⟩ => ⟨S2x128x8x64, .f32⟩
  | .hbm, ⟨38, _⟩ => ⟨S2x128x8x64, .f32⟩
  | .hbm, ⟨39, _⟩ => ⟨S2x1024x8x64, .f32⟩
  | .hbm, ⟨40, _⟩ => ⟨S2x1024x8x64, .f32⟩
  | .hbm, ⟨41, _⟩ => ⟨S2x8x128x1024, .f32⟩
  | .hbm, ⟨42, _⟩ => ⟨S_, .f32⟩
  | .hbm, ⟨43, _⟩ => ⟨S2x8x128x1024, .f32⟩
  | .hbm, ⟨44, _⟩ => ⟨S2x8x128x1024, .f32⟩
  | .hbm, ⟨45, _⟩ => ⟨S_, .f32⟩
  | .hbm, ⟨46, _⟩ => ⟨S2x8x128, .f32⟩
  | .hbm, ⟨47, _⟩ => ⟨S2x8x128x1, .f32⟩
  | .hbm, ⟨48, _⟩ => ⟨S2x8x128x1, .f32⟩
  | .hbm, ⟨49, _⟩ => ⟨S2x8x128x1, .f32⟩
  | .hbm, ⟨50, _⟩ => ⟨S2x8x128x1, .f32⟩
  | .hbm, ⟨51, _⟩ => ⟨S2x8x128x1024, .f32⟩
  | .hbm, ⟨52, _⟩ => ⟨S2x8x128x1024, .f32⟩
  | .hbm, ⟨53, _⟩ => ⟨S2x8x128x1024, .f32⟩
  | .hbm, ⟨54, _⟩ => ⟨S2x8x128x1, .f32⟩
  | .hbm, ⟨55, _⟩ => ⟨S_, .f32⟩
  | .hbm, ⟨56, _⟩ => ⟨S2x8x128, .f32⟩
  | .hbm, ⟨57, _⟩ => ⟨S2x8x128x1, .f32⟩
  | .hbm, ⟨58, _⟩ => ⟨S2x8x128x1, .f32⟩
  | .hbm, ⟨59, _⟩ => ⟨S2x128x8x1, .f32⟩
  | .hbm, ⟨60, _⟩ => ⟨S2x128x8x64, .f32⟩
  | .hbm, ⟨61, _⟩ => ⟨S2x128x8x64, .f32⟩
  | .hbm, ⟨62, _⟩ => ⟨S2x8x64x128, .f32⟩
  | .hbm, ⟨63, _⟩ => ⟨S2x128x8x64, .f32⟩
  | .hbm, ⟨64, _⟩ => ⟨S2x128x8x64, .f32⟩
  | .hbm, ⟨65, _⟩ => ⟨S2x1024x8x64, .f32⟩
  | .hbm, ⟨66, _⟩ => ⟨S2x1024x8x64, .f32⟩
  | .hbm, ⟨67, _⟩ => ⟨S2x8x128x1024, .f32⟩
  | .hbm, ⟨68, _⟩ => ⟨S_, .f32⟩
  | .hbm, ⟨69, _⟩ => ⟨S2x8x128x1024, .f32⟩
  | .hbm, ⟨70, _⟩ => ⟨S2x8x128x1024, .f32⟩
  | .hbm, ⟨71, _⟩ => ⟨S_, .f32⟩
  | .hbm, ⟨72, _⟩ => ⟨S2x8x128, .f32⟩
  | .hbm, ⟨73, _⟩ => ⟨S2x8x128x1, .f32⟩
  | .hbm, ⟨74, _⟩ => ⟨S2x8x128x1, .f32⟩
  | .hbm, ⟨75, _⟩ => ⟨S2x8x128x1, .f32⟩
  | .hbm, ⟨76, _⟩ => ⟨S2x8x128x1, .f32⟩
  | .hbm, ⟨77, _⟩ => ⟨S2x8x128x1024, .f32⟩
  | .hbm, ⟨78, _⟩ => ⟨S2x8x128x1024, .f32⟩
  | .hbm, ⟨79, _⟩ => ⟨S2x8x128x1024, .f32⟩
  | .hbm, ⟨80, _⟩ => ⟨S2x8x128x1, .f32⟩
  | .hbm, ⟨81, _⟩ => ⟨S_, .f32⟩
  | .hbm, ⟨82, _⟩ => ⟨S2x8x128, .f32⟩
  | .hbm, ⟨83, _⟩ => ⟨S2x8x128x1, .f32⟩
  | .hbm, ⟨84, _⟩ => ⟨S2x8x128x1, .f32⟩
  | .hbm, ⟨85, _⟩ => ⟨S2x128x8x1, .f32⟩
  | .hbm, ⟨86, _⟩ => ⟨S2x128x8x64, .f32⟩
  | .hbm, ⟨87, _⟩ => ⟨S2x128x8x64, .f32⟩
  | .hbm, ⟨88, _⟩ => ⟨S2x8x64x128, .f32⟩
  | .hbm, ⟨89, _⟩ => ⟨S2x128x8x64, .f32⟩
  | .hbm, ⟨90, _⟩ => ⟨S2x128x8x64, .f32⟩
  | .hbm, ⟨91, _⟩ => ⟨S2x1024x8x64, .f32⟩
  | .hbm, ⟨92, _⟩ => ⟨S2x1024x8x64, .f32⟩
  | .hbm, ⟨93, _⟩ => ⟨S2x8x128x1024, .f32⟩
  | .hbm, ⟨94, _⟩ => ⟨S_, .f32⟩
  | .hbm, ⟨95, _⟩ => ⟨S2x8x128x1024, .f32⟩
  | .hbm, ⟨96, _⟩ => ⟨S2x8x128x1024, .f32⟩
  | .hbm, ⟨97, _⟩ => ⟨S_, .f32⟩
  | .hbm, ⟨98, _⟩ => ⟨S2x8x128, .f32⟩
  | .hbm, ⟨99, _⟩ => ⟨S2x8x128x1, .f32⟩
  | .hbm, ⟨100, _⟩ => ⟨S2x8x128x1, .f32⟩
  | .hbm, ⟨101, _⟩ => ⟨S2x8x128x1, .f32⟩
  | .hbm, ⟨102, _⟩ => ⟨S2x8x128x1, .f32⟩
  | .hbm, ⟨103, _⟩ => ⟨S2x8x128x1024, .f32⟩
  | .hbm, ⟨104, _⟩ => ⟨S2x8x128x1024, .f32⟩
  | .hbm, ⟨105, _⟩ => ⟨S2x8x128x1024, .f32⟩
  | .hbm, ⟨106, _⟩ => ⟨S2x8x128x1, .f32⟩
  | .hbm, ⟨107, _⟩ => ⟨S_, .f32⟩
  | .hbm, ⟨108, _⟩ => ⟨S2x8x128, .f32⟩
  | .hbm, ⟨109, _⟩ => ⟨S2x8x128x1, .f32⟩
  | .hbm, ⟨110, _⟩ => ⟨S2x8x128x1, .f32⟩
  | .hbm, ⟨111, _⟩ => ⟨S2x128x8x1, .f32⟩
  | .hbm, ⟨112, _⟩ => ⟨S2x128x8x64, .f32⟩
  | .hbm, ⟨113, _⟩ => ⟨S2x128x8x64, .f32⟩
  | .hbm, ⟨114, _⟩ => ⟨S2x8x64x128, .f32⟩
  | .hbm, ⟨115, _⟩ => ⟨S2x128x8x64, .f32⟩
  | .hbm, ⟨116, _⟩ => ⟨S2x128x8x64, .f32⟩
  | .hbm, ⟨117, _⟩ => ⟨S2x128x8x1, .f32⟩
  | .hbm, ⟨118, _⟩ => ⟨S2x128x8x64, .f32⟩
  | .hbm, ⟨119, _⟩ => ⟨S2x128x8x64, .f32⟩
  | .hbm, ⟨120, _⟩ => ⟨S2x128x512, .f32⟩
  | .hbm, ⟨121, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Prog.lean ====
/-
# The kernel as a short program

The printed kernel is one straight line of about a thousand operations, cut into windows by count. This module writes the
same program with its repetitions named — a local head, the start and the finish of a remote copy, the merge of
the row maxima and sums, the merge of one chunk of partial outputs, the normalised write-back — and proves the
printed kernel equal to it.
-/
module

public import proofs.«01_k».proof.Proof.Gen.KernelIdeal
public import proofs.«01_k».proof.Proof.Gen.KernelIdeal.Skeleton

@[expose] public section

set_option maxRecDepth 16384

noncomputable section

namespace Cert.KernelIdealProof

open Cert.KernelIdeal Cert.KernelIdeal.Gen
open Idealize.ShloMosaic Idealize.ShloMosaic.TcCoe Idealize.SL Sem

variable {F : FTy → Type} [FloatOps F]

/-! ## Buffers and semaphores -/

abbrev xM : Memref sig .tc .vmem S2x128x512 .f32 := Memref.whole cc0_stg0_0
abbrev wqM : Memref sig .tc .vmem S512x512 .f32 := Memref.whole cc0_stg1_0
abbrev woM : Memref sig .tc .vmem S512x512 .f32 := Memref.whole cc0_stg2_0
abbrev kM : Memref sig .tc .vmem S2x128x8x64 .f32 := Memref.whole cc0_stg3_0
abbrev vM : Memref sig .tc .vmem S2x128x8x64 .f32 := Memref.whole cc0_stg4_0
abbrev outM : Memref sig .tc .vmem S2x128x512 .f32 := Memref.whole cc0_stg5_0
/-- The running partial outputs: one 128 × 64 matrix per (batch, head), row `8 b + h`. -/
abbrev accO : Memref sig .tc .vmem S16x128x64 .bf16 := Memref.whole cc0_scratch0
/-- The running row maxima (plane 0) and row sums (plane 1). -/
abbrev accML : Memref sig .tc .vmem S2x16x128 .f32 := Memref.whole cc0_scratch1
/-- Where the partner's partial outputs land, one plane per round. -/
abbrev rcvO : Memref sig .tc .vmem S5x16x128x64 .bf16 := Memref.whole cc0_scratch2
/-- Where the partner's maxima and sums land, one plane per round. -/
abbrev rcvML : Memref sig .tc .vmem S5x2x16x128 .f32 := Memref.whole cc0_scratch3
/-- The normalised attention rows the last matrix product reads. -/
abbrev attM : Memref sig .tc .vmem S256x512 .f32 := Memref.whole cc0_scratch4

theorem accO_whole : (accO).IsWhole := Memref.isWhole_whole _
theorem accML_whole : (accML).IsWhole := Memref.isWhole_whole _
theorem rcvO_whole : (rcvO).IsWhole := Memref.isWhole_whole _

/-- The runtime's barrier semaphore. -/
abbrev barS : Sem sig := (SemArray.scalar (sig.barrier 0 rfl) : Sems sig S_).sem

/-! ## The side conditions, over all heads, rounds and chunks -/

theorem inb_ix54 : ∀ (r : Fin 5) (s : Fin 4), ∀ a, (![r.val, s.val] : Fin 2 → Nat) a + S1x1.size a ≤ S5x4.size a := by decide
theorem inb_ix5 : ∀ (r : Fin 5), ∀ a, (![r.val] : Fin 1 → Nat) a + S1.size a ≤ S5.size a := by decide
theorem inb_accO : ∀ (s : Fin 4), ∀ a, (![4 * s.val, 0, 0] : Fin 3 → Nat) a + S4x128x64.size a ≤ S16x128x64.size a := by decide
theorem inb_accO1 : ∀ (b : Fin 2) (h : Fin 8), ∀ a, (![8 * b.val + h.val, 0, 0] : Fin 3 → Nat) a + S1x128x64.size a ≤ S16x128x64.size a := by decide
theorem inb_accML1 : ∀ (p : Fin 2) (b : Fin 2) (h : Fin 8), ∀ a, (![p.val, 8 * b.val + h.val, 0] : Fin 3 → Nat) a + S1x1x128.size a ≤ S2x16x128.size a := by decide
theorem inb_accMLp : ∀ (p : Fin 2), ∀ a, (![p.val, 0, 0] : Fin 3 → Nat) a + S1x16x128.size a ≤ S2x16x128.size a := by decide
theorem inb_rcvO : ∀ (r : Fin 5) (s : Fin 4), ∀ a, (![r.val, 4 * s.val, 0, 0] : Fin 4 → Nat) a + S1x4x128x64.size a ≤ S5x16x128x64.size a := by decide
theorem inb_rcvML : ∀ (r : Fin 5), ∀ a, (![r.val, 0, 0, 0] : Fin 4 → Nat) a + S1x2x16x128.size a ≤ S5x2x16x128.size a := by decide
theorem inb_rcvMLp : ∀ (r : Fin 5) (p : Fin 2), ∀ a, (![r.val, p.val, 0, 0] : Fin 4 → Nat) a + S1x1x16x128.size a ≤ S5x2x16x128.size a := by decide
theorem inb_kv : ∀ (b : Fin 2) (h : Fin 8), ∀ a, (![b.val, 0, h.val, 0] : Fin 4 → Nat) a + S1x128x1x64.size a ≤ S2x128x8x64.size a := by decide
theorem inb_att1 : ∀ (b : Fin 2) (h : Fin 8), ∀ a, (![128 * b.val, 64 * h.val] : Fin 2 → Nat) a + S128x64.size a ≤ S256x512.size a := by decide
theorem inb_att : ∀ (b : Fin 2), ∀ a, (![128 * b.val, 0] : Fin 2 → Nat) a + S128x512.size a ≤ S256x512.size a := by decide
theorem inb_out : ∀ (b : Fin 2), ∀ a, (![b.val, 0, 0] : Fin 3 → Nat) a + S1x128x512.size a ≤ S2x128x512.size a := by decide

/-- The rectangles the kernel addresses. -/
abbrev rAccO (s : Fin 4) : Rect S16x128x64 := Rect.unit (s := S16x128x64) ![4 * s.val, 0, 0] S4x128x64.size (inb_accO s)
abbrev rAccO1 (b : Fin 2) (h : Fin 8) : Rect S16x128x64 := Rect.unit (s := S16x128x64) ![8 * b.val + h.val, 0, 0] S1x128x64.size (inb_accO1 b h)
abbrev rML1 (p b : Fin 2) (h : Fin 8) : Rect S2x16x128 := Rect.unit (s := S2x16x128) ![p.val, 8 * b.val + h.val, 0] S1x1x128.size (inb_accML1 p b h)
abbrev rMLp (p : Fin 2) : Rect S2x16x128 := Rect.unit (s := S2x16x128) ![p.val, 0, 0] S1x16x128.size (inb_accMLp p)
abbrev rRcvO (r : Fin 5) (s : Fin 4) : Rect S5x16x128x64 := Rect.unit (s := S5x16x128x64) ![r.val, 4 * s.val, 0, 0] S1x4x128x64.size (inb_rcvO r s)
abbrev rRcvML (r : Fin 5) : Rect S5x2x16x128 := Rect.unit (s := S5x2x16x128) ![r.val, 0, 0, 0] S1x2x16x128.size (inb_rcvML r)
abbrev rRcvMLp (r : Fin 5) (p : Fin 2) : Rect S5x2x16x128 := Rect.unit (s := S5x2x16x128) ![r.val, p.val, 0, 0] S1x1x16x128.size (inb_rcvMLp r p)
abbrev rKV (b : Fin 2) (h : Fin 8) : Rect S2x128x8x64 := Rect.unit (s := S2x128x8x64) ![b.val, 0, h.val, 0] S1x128x1x64.size (inb_kv b h)
abbrev rAtt1 (b : Fin 2) (h : Fin 8) : Rect S256x512 := Rect.unit (s := S256x512) ![128 * b.val, 64 * h.val] S128x64.size (inb_att1 b h)
abbrev rAtt (b : Fin 2) : Rect S256x512 := Rect.unit (s := S256x512) ![128 * b.val, 0] S128x512.size (inb_att b)
abbrev rOut (b : Fin 2) : Rect S2x128x512 := Rect.unit (s := S2x128x512) ![b.val, 0, 0] S1x128x512.size (inb_out b)
abbrev rX : Rect S2x128x512 := Rect.unit (s := S2x128x512) ![0, 0, 0] S2x128x512.size inb_S2x128x512_S2x128x512_0_0_0
abbrev rW : Rect S512x512 := Rect.unit (s := S512x512) ![0, 0] S512x512.size inb_S512x512_S512x512_0_0

theorem packed_accO : ∀ (s : Fin 4), (rAccO s).PackedRows (EltTy.packing .bf16) := by decide
theorem packed_accO1 : ∀ (b : Fin 2) (h : Fin 8), (rAccO1 b h).PackedRows (EltTy.packing .bf16) := by decide
theorem words_accO : ∀ (s : Fin 4), (rAccO s).WholeWords (EltTy.packing .bf16) := by decide
theorem words_rcvO : ∀ (r : Fin 5) (s : Fin 4), (rRcvO r s).WholeWords (EltTy.packing .bf16) := by decide

theorem slices_x : ∀ b : Fin 2, S256x512.Slices ![128 * b.val, 0] S128x512 := by decide
theorem slices_q : ∀ h : Fin 8, S128x512.Slices ![0, 64 * h.val] S128x64 := by decide
theorem slices_ml : ∀ s : Fin 4, S16x128.Slices ![4 * s.val, 0] S4x128 := by decide
theorem slices_l : ∀ b : Fin 2, S16x128.Slices ![8 * b.val, 0] S8x128 := by decide
theorem slices_n : ∀ h : Fin 8, S8x128x64.Slices ![h.val, 0, 0] S1x128x64 := by decide

/-! ## The chunks and planes as memrefs, the semaphores -/

/-- Chunk `s` of the running partial outputs. -/
abbrev oSrc (s : Fin 4) : Memref sig .tc .vmem S4x128x64 .bf16 := accO.slice (rAccO s) (fun _ => rfl)
/-- Chunk `s` of round `r`'s landing plane. -/
abbrev oDst (r : Fin 5) (s : Fin 4) : Memref sig .tc .vmem S4x128x64 .bf16 :=
  (rcvO.slice (rRcvO r s) (fun _ => rfl)).squeeze S4x128x64 squeezes_S1x4x128x64_S4x128x64
/-- Round `r`'s landing plane for the maxima and sums. -/
abbrev mlDst (r : Fin 5) : Memref sig .tc .vmem S2x16x128 .f32 :=
  (rcvML.slice (rRcvML r) (fun _ => rfl)).squeeze S2x16x128 squeezes_S1x2x16x128_S2x16x128

abbrev sendO (r : Fin 5) (s : Fin 4) : DmaSem sig :=
  ((cc0_scratch5.slice (Rect.unit (s := S5x4) ![r.val, s.val] S1x1.size (inb_ix54 r s))).squeeze S_ squeezes_S1x1_S_).sem
abbrev recvO (r : Fin 5) (s : Fin 4) : DmaSem sig :=
  ((cc0_scratch6.slice (Rect.unit (s := S5x4) ![r.val, s.val] S1x1.size (inb_ix54 r s))).squeeze S_ squeezes_S1x1_S_).sem
abbrev sendML (r : Fin 5) : DmaSem sig :=
  ((cc0_scratch7.slice (Rect.unit (s := S5) ![r.val] S1.size (inb_ix5 r))).squeeze S_ squeezes_S1_S_).sem
abbrev recvML (r : Fin 5) : DmaSem sig :=
  ((cc0_scratch8.slice (Rect.unit (s := S5) ![r.val] S1.size (inb_ix5 r))).squeeze S_ squeezes_S1_S_).sem

/-! ## The pure values -/

/-- The rows of batch element `b` of `x` times `Wq`. -/
def qRows (b : Fin 2) (x : FVec F S256x512 .f32) (wq : Vec F S512x512 .f32) : FVec F S128x512 .f32 :=
  matmul dot_S128x512_S512x512_S128x512_1_0_0_1_n_n none (extractStridedSlice S128x512 ![128 * b.val, 0] x (slices_x b))
    (shapeCast S512x512 wq shapeCasts_S512x512_S512x512) (constant S128x512 .f32 0x00000000#32)

/-- The scaled scores of head `h`: its queries against the device's 128 keys. -/
def scores (h : Fin 8) (q : FVec F S128x512 .f32) (k : Vec F S1x128x1x64 .f32) : FVec F S128x128 .f32 :=
  mulf (matmul dot_S128x64_S128x64_S128x128_1_1_0_0_n_n none (extractStridedSlice S128x64 ![0, 64 * h.val] q (slices_q h))
    (shapeCast S128x64 k shapeCasts_S1x128x1x64_S128x64) (constant S128x128 .f32 0x00000000#32))
    (broadcast S128x128 (Scalar.ofBits .f32 0x3E000000#32))

/-- The row maxima of the scores. -/
def rowMax (s : FVec F S128x128 .f32) : FVec F S128 .f32 :=
  multiReduction .maximumf [1] S128 s 0xFF800000#32 reduces_S128x128_S128 (.inl rfl) rfl

/-- The exponentials of the scores, each row shifted by its maximum. -/
def probs (s : FVec F S128x128 .f32) : FVec F S128x128 .f32 :=
  exp (subf s (broadcastTo S128x128 (shapeCast S128x1 (rowMax s) shapeCasts_S128_S128x1) broadcasts_S128x1_S128x128))

/-- What a head stores: its partial output, -/
def headO (h : Fin 8) (q : FVec F S128x512 .f32) (k v : Vec F S1x128x1x64 .f32) : FVec F S1x128x64 .bf16 :=
  shapeCast S1x128x64 (truncf .bf16 (matmul dot_S128x128_S128x64_S128x64_1_0_0_1_n_n none (probs (scores h q k))
    (shapeCast S128x64 v shapeCasts_S1x128x1x64_S128x64) (constant S128x64 .f32 0x00000000#32)) bitsLt_bf16_f32) shapeCasts_S128x64_S1x128x64
/-- its row maxima, -/
def headM (h : Fin 8) (q : FVec F S128x512 .f32) (k : Vec F S1x128x1x64 .f32) : FVec F S1x1x128 .f32 :=
  shapeCast S1x1x128 (rowMax (scores h q k)) shapeCasts_S128_S1x1x128
/-- its row sums. -/
def headL (h : Fin 8) (q : FVec F S128x512 .f32) (k : Vec F S1x128x1x64 .f32) : FVec F S1x1x128 .f32 :=
  shapeCast S1x1x128 (multiReduction .add [1] S128 (probs (scores h q k)) 0x00000000#32 reduces_S128x128_S128 (.inl rfl) rfl) shapeCasts_S128_S1x1x128

/-- The new maxima of a merge, -/
def newM (ma : Vec F S1x16x128 .f32) (mb : Vec F S1x1x16x128 .f32) : FVec F S16x128 .f32 :=
  maximumf (shapeCast S16x128 ma shapeCasts_S1x16x128_S16x128) (shapeCast S16x128 mb shapeCasts_S1x1x16x128_S16x128)
/-- the factor of the device's own partial, -/
def facA (ma : Vec F S1x16x128 .f32) (mb : Vec F S1x1x16x128 .f32) : FVec F S16x128 .f32 :=
  exp (subf (shapeCast S16x128 ma shapeCasts_S1x16x128_S16x128) (newM ma mb))
/-- the factor of the partner's, -/
def facB (ma : Vec F S1x16x128 .f32) (mb : Vec F S1x1x16x128 .f32) : FVec F S16x128 .f32 :=
  exp (subf (shapeCast S16x128 mb shapeCasts_S1x1x16x128_S16x128) (newM ma mb))
/-- and the new sums. -/
def newL (ma la : Vec F S1x16x128 .f32) (mb lb : Vec F S1x1x16x128 .f32) : FVec F S16x128 .f32 :=
  addf (mulf (shapeCast S16x128 la shapeCasts_S1x16x128_S16x128) (facA ma mb)) (mulf (shapeCast S16x128 lb shapeCasts_S1x1x16x128_S16x128) (facB ma mb))

/-- A factor's rows of chunk `s`, along the columns of the outputs. -/
def spread (s : Fin 4) (al : FVec F S16x128 .f32) : FVec F S4x128x64 .f32 :=
  broadcastTo S4x128x64 (shapeCast S4x128x1 (extractStridedSlice S4x128 ![4 * s.val, 0] al (slices_ml s)) shapeCasts_S4x128_S4x128x1) broadcasts_S4x128x1_S4x128x64
/-- Chunk `s` of the merged partial outputs. -/
def merged (s : Fin 4) (al be : FVec F S16x128 .f32) (a : Vec F S4x128x64 .bf16) (b : Vec F S1x4x128x64 .bf16) : FVec F S4x128x64 .f32 :=
  addf (mulf (extf .f32 a bitsLt_bf16_f32) (spread s al))
    (mulf (extf .f32 (shapeCast S4x128x64 b shapeCasts_S1x4x128x64_S4x128x64 : FVec F S4x128x64 .bf16) bitsLt_bf16_f32) (spread s be))
/-- The same, as stored. -/
def mergedT (s : Fin 4) (al be : FVec F S16x128 .f32) (a : Vec F S4x128x64 .bf16) (b : Vec F S1x4x128x64 .bf16) : FVec F S4x128x64 .bf16 :=
  shapeCast S4x128x64 (truncf .bf16 (merged s al be a b) bitsLt_bf16_f32) shapeCasts_S4x128x64_S4x128x64

/-- The two chunks of batch element `b`, divided by the row sums. -/
def normed (b : Fin 2) (l : FVec F S16x128 .f32) (o0 o1 : FVec F S4x128x64 .f32) : FVec F S8x128x64 .f32 :=
  divf (concatenate S8x128x64 0 [⟨S4x128x64, o0⟩, ⟨S4x128x64, o1⟩] concatenates_S4x128x64_S4x128x64_S8x128x64_d0)
    (broadcastTo S8x128x64 (shapeCast S8x128x1 (extractStridedSlice S8x128 ![8 * b.val, 0] l (slices_l b)) shapeCasts_S8x128_S8x128x1) broadcasts_S8x128x1_S8x128x64)
/-- Head `h` of them. -/
def attHead (h : Fin 8) (n : FVec F S8x128x64 .f32) : FVec F S128x64 .f32 :=
  shapeCast S128x64 (shapeCast S128x64 (extractStridedSlice S1x128x64 ![h.val, 0, 0] n (slices_n h)) shapeCasts_S1x128x64_S128x64 : FVec F S128x64 .f32) shapeCasts_S128x64_S128x64
/-- The attention rows of a batch element times `Wo`. -/
def outRows (a : Vec F S128x512 .f32) (wo : Vec F S512x512 .f32) : FVec F S1x128x512 .f32 :=
  shapeCast S1x128x512 (matmul dot_S128x512_S512x512_S128x512_1_0_0_1_n_n none a (shapeCast S512x512 wo shapeCasts_S512x512_S512x512)
    (constant S128x512 .f32 0x00000000#32)) shapeCasts_S128x512_S1x128x512

/-! ## The steps -/

/-- The program type of the kernel's body. -/
abbrev P (F : FTy → Type) (α : Type) := Prog (TpuEff nD τ sig (Elt F) Λ₀ .tc) α

/-- One local head: load its keys and values, store its partial output, maxima and sums. -/
def head (b : Fin 2) (h : Fin 8) (q : FVec F S128x512 .f32) : P F PUnit := do
  let k : Vec F S1x128x1x64 .f32 ← Prog.lift (.load kM (rKV b h).toLoadRect (View.loadsAt_vmem h_S1x128x1x64))
  let v : Vec F S1x128x1x64 .f32 ← Prog.lift (.load vM (rKV b h).toLoadRect (View.loadsAt_vmem h_S1x128x1x64))
  let _ : Vec F S1x128x64 .bf16 ← Prog.lift (.load accO (rAccO1 b h).toLoadRect (View.loadsAt_vmem h_S1x128x64))
  Prog.lift (.store accO (rAccO1 b h) (headO h q k v) Finset.univ (View.stores_vmem h_S1x128x64 (accO_whole.storeExact_slice rfl _ (packed_accO1 b h)) (fun _ => rfl)) (.inl rfl))
  let _ : Vec F S1x1x128 .f32 ← Prog.lift (.load accML (rML1 0 b h).toLoadRect (View.loadsAt_vmem h_S1x1x128))
  Prog.lift (.store accML (rML1 0 b h) (headM h q k) Finset.univ (View.stores_vmem_bits_univ h_S1x1x128 rfl) (.inl rfl))
  let _ : Vec F S1x1x128 .f32 ← Prog.lift (.load accML (rML1 1 b h).toLoadRect (View.loadsAt_vmem h_S1x1x128))
  Prog.lift (.store accML (rML1 1 b h) (headL h q k) Finset.univ (View.stores_vmem_bits_univ h_S1x1x128 rfl) (.inl rfl))

/-- The heads of a list, in order. -/
def heads (b : Fin 2) (q : FVec F S128x512 .f32) : List (Fin 8) → P F PUnit
  | [] => pure ⟨⟩
  | h :: hs => do head b h q; heads b q hs

/-- The eight heads. -/
abbrev eight : List (Fin 8) := [⟨0, by decide⟩, ⟨1, by decide⟩, ⟨2, by decide⟩, ⟨3, by decide⟩, ⟨4, by decide⟩, ⟨5, by decide⟩, ⟨6, by decide⟩, ⟨7, by decide⟩]

/-- Start sending chunk `s` of the partial outputs to round `r`'s partner `d`. -/
def startO (d : Dev nD) (r : Fin 5) (s : Fin 4) : P F PUnit :=
  Prog.lift (.enqueueDma (oSrc s) (.remote (Dev.tc d) (oDst r s) (.dma (sendO r s))) (.dma (recvO r s)) (accO_whole.wordExact_slice rfl _ (words_accO s))
    ((rcvO_whole.wordExact_slice rfl _ (words_rcvO r s)).reshape _ _) ⟨⟨rfl, Or.inl rfl⟩, trivial⟩)
/-- Start sending the maxima and sums to round `r`'s partner `d`. -/
def startML (d : Dev nD) (r : Fin 5) : P F PUnit :=
  Prog.lift (.enqueueDma accML (.remote (Dev.tc d) (mlDst r) (.dma (sendML r))) (.dma (recvML r)) accML_whole.wordExact
    ((View.wordExact_bits rfl).reshape _ _) ⟨⟨rfl, Or.inl rfl⟩, trivial⟩)
/-- Wait until chunk `s` is sent, then until the partner's has landed. -/
def finishO (r : Fin 5) (s : Fin 4) : P F PUnit := do
  Prog.lift (.waitDma2 (sendO r s) (oDst r s) (oSrc s) ((rcvO_whole.wordExact_slice rfl _ (words_rcvO r s)).reshape _ _) (accO_whole.wordExact_slice rfl _ (words_accO s)))
  Prog.lift (.waitDma2 (recvO r s) (oSrc s) (oDst r s) (accO_whole.wordExact_slice rfl _ (words_accO s)) ((rcvO_whole.wordExact_slice rfl _ (words_rcvO r s)).reshape _ _))
/-- Wait until the maxima and sums are sent, then until the partner's have landed. -/
def finishML (r : Fin 5) : P F PUnit := do
  Prog.lift (.waitDma2 (sendML r) (mlDst r) accML ((View.wordExact_bits rfl).reshape _ _) accML_whole.wordExact)
  Prog.lift (.waitDma2 (recvML r) accML (mlDst r) accML_whole.wordExact ((View.wordExact_bits rfl).reshape _ _))

/-- The maxima and sums of round `r`: wait for the partner's and merge; what is handed on is the two factors and the new sums. -/
def mergeML (r : Fin 5) : P F (FVec F S16x128 .f32 × FVec F S16x128 .f32 × FVec F S16x128 .f32) := do
  finishML r
  let ma : Vec F S1x16x128 .f32 ← Prog.lift (.load accML (rMLp 0).toLoadRect (View.loadsAt_vmem h_S1x16x128))
  let la : Vec F S1x16x128 .f32 ← Prog.lift (.load accML (rMLp 1).toLoadRect (View.loadsAt_vmem h_S1x16x128))
  let mb : Vec F S1x1x16x128 .f32 ← Prog.lift (.load rcvML (rRcvMLp r 0).toLoadRect (View.loadsAt_vmem h_S1x1x16x128))
  let lb : Vec F S1x1x16x128 .f32 ← Prog.lift (.load rcvML (rRcvMLp r 1).toLoadRect (View.loadsAt_vmem h_S1x1x16x128))
  let _ : Vec F S1x16x128 .f32 ← Prog.lift (.load accML (rMLp 0).toLoadRect (View.loadsAt_vmem h_S1x16x128))
  Prog.lift (.store accML (rMLp 0) (shapeCast S1x16x128 (newM ma mb) shapeCasts_S16x128_S1x16x128 : FVec F S1x16x128 .f32) Finset.univ (View.stores_vmem_bits_univ h_S1x16x128 rfl) (.inl rfl))
  let _ : Vec F S1x16x128 .f32 ← Prog.lift (.load accML (rMLp 1).toLoadRect (View.loadsAt_vmem h_S1x16x128))
  Prog.lift (.store accML (rMLp 1) (shapeCast S1x16x128 (newL ma la mb lb) shapeCasts_S16x128_S1x16x128 : FVec F S1x16x128 .f32) Finset.univ (View.stores_vmem_bits_univ h_S1x16x128 rfl) (.inl rfl))
  pure (facA ma mb, facB ma mb, newL ma la mb lb)

/-- Load the device's chunk `s` and the partner's of round `r`, once it has landed. -/
def loadChunk (r : Fin 5) (s : Fin 4) : P F (Vec F S4x128x64 .bf16 × Vec F S1x4x128x64 .bf16) := do
  finishO r s
  let a : Vec F S4x128x64 .bf16 ← Prog.lift (.load accO (rAccO s).toLoadRect (View.loadsAt_vmem h_S4x128x64))
  let b : Vec F S1x4x128x64 .bf16 ← Prog.lift (.load rcvO (rRcvO r s).toLoadRect (View.loadsAt_vmem h_S1x4x128x64))
  pure (a, b)

/-- Chunk `s` of round `r`, not the last: merge it in place and start sending it on to the next partner `d`. -/
def chunk (r r' : Fin 5) (al be : FVec F S16x128 .f32) (d : Dev nD) (s : Fin 4) : P F PUnit := do
  let ab ← loadChunk r s
  let _ : Vec F S4x128x64 .bf16 ← Prog.lift (.load accO (rAccO s).toLoadRect (View.loadsAt_vmem h_S4x128x64))
  Prog.lift (.store accO (rAccO s) (mergedT s al be ab.1 ab.2) Finset.univ (View.stores_vmem h_S4x128x64 (accO_whole.storeExact_slice rfl _ (packed_accO s)) (fun _ => rfl)) (.inl rfl))
  startO d r' s

/-- Round `r`, not the last. -/
def round (r r' : Fin 5) (d : Dev nD) : P F PUnit := do
  let w ← mergeML r
  startML d r'
  chunk r r' w.1 w.2.1 d ⟨0, by decide⟩
  chunk r r' w.1 w.2.1 d ⟨1, by decide⟩
  chunk r r' w.1 w.2.1 d ⟨2, by decide⟩
  chunk r r' w.1 w.2.1 d ⟨3, by decide⟩

/-- Write the heads of a list of a batch element's normalised outputs into the attention rows. -/
def attHeads (b : Fin 2) (n : FVec F S8x128x64 .f32) : List (Fin 8) → P F PUnit
  | [] => pure ⟨⟩
  | h :: hs => do
    let _ : Vec F S128x64 .f32 ← Prog.lift (.load attM (rAtt1 b h).toLoadRect (View.loadsAt_vmem h_S128x64))
    Prog.lift (.store attM (rAtt1 b h) (attHead h n) Finset.univ (View.stores_vmem_bits_univ h_S128x64 rfl) (.inl rfl))
    attHeads b n hs

/-- The last round of batch element `b` (its chunks `s₀`, `s₁`): merge, normalise, multiply by `Wo`, store the result. -/
def lastRound (b : Fin 2) (s₀ s₁ : Fin 4) (al be l : FVec F S16x128 .f32) : P F PUnit := do
  let ab ← loadChunk ⟨4, by decide⟩ s₀
  let cd ← loadChunk ⟨4, by decide⟩ s₁
  attHeads b (normed b l (merged s₀ al be ab.1 ab.2) (merged s₁ al be cd.1 cd.2)) eight
  let a : Vec F S128x512 .f32 ← Prog.lift (.load attM (rAtt b).toLoadRect (View.loadsAt_vmem h_S128x512))
  let wo : Vec F S512x512 .f32 ← Prog.lift (.load woM rW.toLoadRect (View.loadsAt_vmem h_S512x512))
  let _ : Vec F S1x128x512 .f32 ← Prog.lift (.load outM (rOut b).toLoadRect (View.loadsAt_vmem h_S1x128x512))
  Prog.lift (.store outM (rOut b) (outRows a wo) Finset.univ (View.stores_vmem_bits_univ h_S1x128x512 rfl) (.inl rfl))

/-! ## The whole -/

/-- The device round `r` exchanges with, as the kernel computes it. -/
def peerW (m : BitVec 32) (d0 : Dev nD) : Nat :=
  (Scalar.addi 0#32 (Scalar.muli (Scalar.xori (Scalar.remsi (Scalar.divsi (Dev.word d0) 1#32) 32#32) m) 1#32)).toNat

theorem peerW_lt (r : Fin 5) : ∀ d0 : Dev nD, peerW (1#32 <<< r.val) d0 < nD := by revert r; decide +kernel

def peer (r : Fin 5) (c : Dev nD) : Dev nD := ⟨peerW (1#32 <<< r.val) c, peerW_lt r c⟩

/-- The kernel over its partners' table. -/
def prog : P F PUnit := do
  let c : Dev nD ← Prog.lift .deviceId
  semSignalWord (peer ⟨0, by decide⟩ c) barS 1#32
  semSignalWord (peer ⟨1, by decide⟩ c) barS 1#32
  semSignalWord (peer ⟨2, by decide⟩ c) barS 1#32
  semSignalWord (peer ⟨3, by decide⟩ c) barS 1#32
  semSignalWord (peer ⟨4, by decide⟩ c) barS 1#32
  let x : Vec F S2x128x512 .f32 ← Prog.lift (.load xM rX.toLoadRect (View.loadsAt_vmem h_S2x128x512))
  let wq : Vec F S512x512 .f32 ← Prog.lift (.load wqM rW.toLoadRect (View.loadsAt_vmem h_S512x512))
  heads ⟨0, by decide⟩ (qRows ⟨0, by decide⟩ (k0_pay4 x) wq) eight
  semWaitWord barS 5#32
  startO (peer ⟨0, by decide⟩ c) ⟨0, by decide⟩ ⟨0, by decide⟩
  startO (peer ⟨0, by decide⟩ c) ⟨0, by decide⟩ ⟨1, by decide⟩
  let wq' : Vec F S512x512 .f32 ← Prog.lift (.load wqM rW.toLoadRect (View.loadsAt_vmem h_S512x512))
  heads ⟨1, by decide⟩ (qRows ⟨1, by decide⟩ (k0_pay4 x) wq') eight
  startML (peer ⟨0, by decide⟩ c) ⟨0, by decide⟩
  startO (peer ⟨0, by decide⟩ c) ⟨0, by decide⟩ ⟨2, by decide⟩
  startO (peer ⟨0, by decide⟩ c) ⟨0, by decide⟩ ⟨3, by decide⟩
  round ⟨0, by decide⟩ ⟨1, by decide⟩ (peer ⟨1, by decide⟩ c)
  round ⟨1, by decide⟩ ⟨2, by decide⟩ (peer ⟨2, by decide⟩ c)
  round ⟨2, by decide⟩ ⟨3, by decide⟩ (peer ⟨3, by decide⟩ c)
  round ⟨3, by decide⟩ ⟨4, by decide⟩ (peer ⟨4, by decide⟩ c)
  let w ← mergeML ⟨4, by decide⟩
  lastRound ⟨0, by decide⟩ ⟨0, by decide⟩ ⟨1, by decide⟩ w.1 w.2.1 w.2.2
  lastRound ⟨1, by decide⟩ ⟨2, by decide⟩ ⟨3, by decide⟩ w.1 w.2.1 w.2.2

set_option maxRecDepth 65536 in
set_option maxHeartbeats 0 in
/-- The printed kernel, at its buffers, is this program: by definitional unfolding. -/
theorem body_eq : cc0_body (F := F) xM (Memref.isWhole_whole _) wqM (Memref.isWhole_whole _) woM (Memref.isWhole_whole _) kM (Memref.isWhole_whole _)
    vM (Memref.isWhole_whole _) outM (Memref.isWhole_whole _) accO accO_whole accML accML_whole rcvO rcvO_whole rcvML (Memref.isWhole_whole _)
    attM (Memref.isWhole_whole _) cc0_scratch5 cc0_scratch6 cc0_scratch7 cc0_scratch8 = prog := rfl

end Cert.KernelIdealProof
-- ==== Proof.Spec.lean ====
/-
# What each buffer holds

The state of a device after `r` rounds — its partial outputs and its maxima and sums —, from the device's own inputs
and, round by round, the partner's state. The landing buffers hold the partners' states, the result is computed from
the state after round 4.
-/
module

public import proofs.«01_k».proof.Proof.Prog
public import Idealize.ShloMosaic.Lib.PointwiseCore

@[expose] public section

set_option maxRecDepth 16384

noncomputable section

namespace Cert.KernelIdealProof

open Cert.KernelIdeal Cert.KernelIdeal.Gen
open Idealize.ShloMosaic Idealize.ShloMosaic.TcCoe Idealize.SL Sem

variable {F : FTy → Type} [FloatOps F]

/-- The inputs, device by device. -/
structure Inputs (F : FTy → Type) where
  x : Dev nD → Vec F S2x128x512 .f32
  wq : Dev nD → Vec F S512x512 .f32
  wo : Dev nD → Vec F S512x512 .f32
  k : Dev nD → Vec F S2x128x8x64 .f32
  v : Dev nD → Vec F S2x128x8x64 .f32

/-- The batch element of row `n` of the partial outputs, its head, its chunk. -/
def bOf (n : Fin 16) : Fin 2 := ⟨n.val / 8, by omega⟩
def hOf (n : Fin 16) : Fin 8 := ⟨n.val % 8, by omega⟩
def sOf (n : Fin 16) : Fin 4 := ⟨n.val / 4, by omega⟩
def tOf (n : Fin 16) : Fin 4 := ⟨n.val % 4, by omega⟩
/-- Row `t` of chunk `s`. -/
def rowOf (s t : Fin 4) : Fin 16 := ⟨4 * s.val + t.val, by omega⟩
/-- The batch element and query of an attention row, the head and component of an attention column. -/
def bRow (n : Fin 256) : Fin 2 := ⟨n.val / 128, by omega⟩
def iRow (n : Fin 256) : Fin 128 := ⟨n.val % 128, by omega⟩
def hCol (n : Fin 512) : Fin 8 := ⟨n.val / 64, by omega⟩
def dCol (n : Fin 512) : Fin 64 := ⟨n.val % 64, by omega⟩

/-! ## The local partials -/

section Local
variable (D : Inputs F) (c : Dev nD)

/-- The loads of whole inputs, and of a head's keys and values. -/
def xAt : Vec F S2x128x512 .f32 := fun j => D.x c (rX.toLoadRect.idx j)
def wqAt : Vec F S512x512 .f32 := fun j => D.wq c (rW.toLoadRect.idx j)
def woAt : Vec F S512x512 .f32 := fun j => D.wo c (rW.toLoadRect.idx j)
def kAt (b : Fin 2) (h : Fin 8) : Vec F S1x128x1x64 .f32 := fun j => D.k c ((rKV b h).toLoadRect.idx j)
def vAt (b : Fin 2) (h : Fin 8) : Vec F S1x128x1x64 .f32 := fun j => D.v c ((rKV b h).toLoadRect.idx j)
def qAt (b : Fin 2) : FVec F S128x512 .f32 := qRows b (k0_pay4 (xAt D c)) (wqAt D c)

/-- The device's partial outputs, and its maxima (plane 0) and sums (plane 1). -/
def localO : Vec F S16x128x64 .bf16 := fun i =>
  headO (hOf (i 0)) (qAt D c (bOf (i 0))) (kAt D c (bOf (i 0)) (hOf (i 0))) (vAt D c (bOf (i 0)) (hOf (i 0))) (ix3 (0 : Fin 1) (i 1 : Fin 128) (i 2 : Fin 64))
def localML : Vec F S2x16x128 .f32 := fun i =>
  if (i 0).val = 0 then headM (hOf (i 1)) (qAt D c (bOf (i 1))) (kAt D c (bOf (i 1)) (hOf (i 1))) (ix3 (0 : Fin 1) (0 : Fin 1) (i 2 : Fin 128))
  else headL (hOf (i 1)) (qAt D c (bOf (i 1))) (kAt D c (bOf (i 1)) (hOf (i 1))) (ix3 (0 : Fin 1) (0 : Fin 1) (i 2 : Fin 128))

end Local

/-! ## The rounds -/

/-- A device's state between rounds. -/
structure St (F : FTy → Type) where
  o : Vec F S16x128x64 .bf16
  ml : Vec F S2x16x128 .f32

/-- A plane of the device's own maxima and sums, as loaded; of its partner's. -/
def planeA (a : St F) (p : Fin 2) : Vec F S1x16x128 .f32 := fun j => a.ml ((rMLp p).toLoadRect.idx j)
def planeB (b : St F) (p : Fin 2) : Vec F S1x1x16x128 .f32 := fun j => b.ml (ix3 p (j 2 : Fin 16) (j 3 : Fin 128))
/-- A chunk of the device's own partial outputs, as loaded; of its partner's. -/
def chunkA (a : St F) (s : Fin 4) : Vec F S4x128x64 .bf16 := fun j => a.o ((rAccO s).toLoadRect.idx j)
def chunkB (b : St F) (s : Fin 4) : Vec F S1x4x128x64 .bf16 := fun j =>
  b.o (ix3 (rowOf s (j 1)) (j 2 : Fin 128) (j 3 : Fin 64))

/-- The factors and sums of the merge of the device's state `a` with its partner's `b`. -/
def stA (a b : St F) : FVec F S16x128 .f32 := facA (planeA a 0) (planeB b 0)
def stB (a b : St F) : FVec F S16x128 .f32 := facB (planeA a 0) (planeB b 0)
def stL (a b : St F) : FVec F S16x128 .f32 := newL (planeA a 0) (planeA a 1) (planeB b 0) (planeB b 1)

/-- One merge. -/
def step (a b : St F) : St F where
  o := fun i => mergedT (sOf (i 0)) (stA a b) (stB a b) (chunkA a (sOf (i 0))) (chunkB b (sOf (i 0))) (ix3 (tOf (i 0)) (i 1 : Fin 128) (i 2 : Fin 64))
  ml := fun i =>
    if (i 0).val = 0 then (shapeCast S1x16x128 (newM (planeA a 0) (planeB b 0)) shapeCasts_S16x128_S1x16x128 : FVec F S1x16x128 .f32) (ix3 (0 : Fin 1) (i 1 : Fin 16) (i 2 : Fin 128))
    else (shapeCast S1x16x128 (stL a b) shapeCasts_S16x128_S1x16x128 : FVec F S1x16x128 .f32) (ix3 (0 : Fin 1) (i 1 : Fin 16) (i 2 : Fin 128))

/-- The partner of round `r`; past the last round the device itself. -/
def peerN (r : ℕ) (c : Dev nD) : Dev nD := if h : r < 5 then peer ⟨r, h⟩ c else c

/-- On a round the partner is that round's. -/
theorem peerN_fin (r : Fin 5) (c : Dev nD) : peerN r.val c = peer r c := dif_pos r.isLt

/-- Device `c`'s state after `r` rounds. -/
def st (D : Inputs F) : ℕ → Dev nD → St F
  | 0, c => ⟨localO D c, localML D c⟩
  | r + 1, c => step (st D r c) (st D r (peerN r c))

/-- A round merges the device's state with its partner's. -/
theorem st_succ (D : Inputs F) (r : Fin 5) (c : Dev nD) : st D (r.val + 1) c = step (st D r.val c) (st D r.val (peer r c)) := by
  show step _ _ = _; rw [peerN_fin]

/-- What lands on device `c`: in plane `r`, the state after `r` rounds of its partner of round `r`. -/
def landO (D : Inputs F) (c : Dev nD) : Vec F S5x16x128x64 .bf16 := fun i =>
  (st D (i 0 : Fin 5).val (peer (i 0) c)).o (ix3 (i 1 : Fin 16) (i 2 : Fin 128) (i 3 : Fin 64))
/-- The maxima and sums that land, likewise. -/
def landML (D : Inputs F) (c : Dev nD) : Vec F S5x2x16x128 .f32 := fun i =>
  (st D (i 0 : Fin 5).val (peer (i 0) c)).ml (ix3 (i 1 : Fin 2) (i 2 : Fin 16) (i 3 : Fin 128))

/-! ## The result -/

section Result
variable (D : Inputs F) (c : Dev nD)

/-- The normalised outputs of batch element `b`, of which the chunks are `s₀` and `s₁`. -/
def normAt (b : Fin 2) (s₀ s₁ : Fin 4) : FVec F S8x128x64 .f32 :=
  let a := st D 4 c
  let p := st D 4 (peer 4 c)
  normed b (stL a p) (merged s₀ (stA a p) (stB a p) (chunkA a s₀) (chunkB p s₀)) (merged s₁ (stA a p) (stB a p) (chunkA a s₁) (chunkB p s₁))

def s0Of (b : Fin 2) : Fin 4 := ⟨2 * b.val, by omega⟩
def s1Of (b : Fin 2) : Fin 4 := ⟨2 * b.val + 1, by omega⟩

/-- The attention rows. -/
def attAt : Vec F S256x512 .f32 := fun i =>
  attHead (hCol (i 1)) (normAt D c (bRow (i 0)) (s0Of (bRow (i 0))) (s1Of (bRow (i 0)))) (ix2 (iRow (i 0)) (dCol (i 1)))

def attRowsAt (b : Fin 2) : Vec F S128x512 .f32 := fun j => attAt D c ((rAtt b).toLoadRect.idx j)

/-- The kernel's result on device `c`. -/
def outAt : Vec F S2x128x512 .f32 := fun i =>
  outRows (attRowsAt D c (i 0)) (woAt D c) (ix3 (0 : Fin 1) (i 1 : Fin 128) (i 2 : Fin 512))

end Result

/-! ## The partners -/

/-- The partner's partner is the device. -/
theorem peer_peer (r : Fin 5) (c : Dev nD) : peer r (peer r c) = c := by
  revert c; revert r; decide +kernel

/-- So partners are a matching of the devices. -/
def peerEquiv (r : Fin 5) : Dev nD ≃ Dev nD := ⟨peer r, peer r, peer_peer r, peer_peer r⟩

/-! ## The element sets the kernel addresses -/

/-- Indices with equal coordinates are equal: three of them, -/
theorem ext3 {n0 n1 n2 : ℕ} {i j : (⟨3, ![n0, n1, n2]⟩ : Shape).Idx} (h0 : (i 0).val = (j 0).val) (h1 : (i 1).val = (j 1).val) (h2 : (i 2).val = (j 2).val) : i = j := by
  funext a; match a with
  | ⟨0, _⟩ => exact Fin.ext h0
  | ⟨1, _⟩ => exact Fin.ext h1
  | ⟨2, _⟩ => exact Fin.ext h2

/-- two, -/
theorem ext2 {n0 n1 : ℕ} {i j : (⟨2, ![n0, n1]⟩ : Shape).Idx} (h0 : (i 0).val = (j 0).val) (h1 : (i 1).val = (j 1).val) : i = j := by
  funext a; match a with
  | ⟨0, _⟩ => exact Fin.ext h0
  | ⟨1, _⟩ => exact Fin.ext h1

/-- four. -/
theorem ext4 {n0 n1 n2 n3 : ℕ} {i j : (⟨4, ![n0, n1, n2, n3]⟩ : Shape).Idx} (h0 : (i 0).val = (j 0).val) (h1 : (i 1).val = (j 1).val) (h2 : (i 2).val = (j 2).val)
    (h3 : (i 3).val = (j 3).val) : i = j := by
  funext a; match a with
  | ⟨0, _⟩ => exact Fin.ext h0
  | ⟨1, _⟩ => exact Fin.ext h1
  | ⟨2, _⟩ => exact Fin.ext h2
  | ⟨3, _⟩ => exact Fin.ext h3

/-- The elements of each rectangle, by their coordinates. -/
theorem mem_rAccO (s : Fin 4) (i : S16x128x64.Idx) : i ∈ (rAccO s).set ↔ (i 0).val / 4 = s.val := by
  have h1 : (i 1).val < 128 := (i 1).isLt
  have h2 : (i 2).val < 64 := (i 2).isLt
  rw [Rect.mem_set_unit]
  refine ⟨fun h => ?_, fun h a => ?_⟩
  · have := h 0; simp at this; omega
  · fin_cases a <;> simp <;> omega
/-- An element of a head's partial output, by its row; -/
theorem mem_rAccO1 (b : Fin 2) (h : Fin 8) (i : S16x128x64.Idx) : i ∈ (rAccO1 b h).set ↔ (i 0).val = 8 * b.val + h.val := by
  have h1 : (i 1).val < 128 := (i 1).isLt
  have h2 : (i 2).val < 64 := (i 2).isLt
  rw [Rect.mem_set_unit]
  refine ⟨fun h => ?_, fun h a => ?_⟩
  · have := h 0; simp at this; omega
  · fin_cases a <;> simp <;> omega
/-- of a head's maxima or sums; -/
theorem mem_rML1 (p b : Fin 2) (h : Fin 8) (i : S2x16x128.Idx) : i ∈ (rML1 p b h).set ↔ (i 0).val = p.val ∧ (i 1).val = 8 * b.val + h.val := by
  have h2 : (i 2).val < 128 := (i 2).isLt
  rw [Rect.mem_set_unit]
  refine ⟨fun h => ?_, fun h a => ?_⟩
  · have := h 0; have := h 1; simp at *; omega
  · fin_cases a <;> simp <;> omega
/-- of a plane of maxima or sums; -/
theorem mem_rMLp (p : Fin 2) (i : S2x16x128.Idx) : i ∈ (rMLp p).set ↔ (i 0).val = p.val := by
  have h1 : (i 1).val < 16 := (i 1).isLt
  have h2 : (i 2).val < 128 := (i 2).isLt
  rw [Rect.mem_set_unit]
  refine ⟨fun h => ?_, fun h a => ?_⟩
  · have := h 0; simp at *; omega
  · fin_cases a <;> simp <;> omega
/-- of a landed chunk; -/
theorem mem_rRcvO (r : Fin 5) (s : Fin 4) (i : S5x16x128x64.Idx) : i ∈ (rRcvO r s).set ↔ (i 0).val = r.val ∧ (i 1).val / 4 = s.val := by
  have h2 : (i 2).val < 128 := (i 2).isLt
  have h3 : (i 3).val < 64 := (i 3).isLt
  rw [Rect.mem_set_unit]
  refine ⟨fun h => ?_, fun h a => ?_⟩
  · have := h 0; have := h 1; simp at *; omega
  · fin_cases a <;> simp <;> omega
/-- of the landed maxima and sums of a round; -/
theorem mem_rRcvML (r : Fin 5) (i : S5x2x16x128.Idx) : i ∈ (rRcvML r).set ↔ (i 0).val = r.val := by
  have h1 : (i 1).val < 2 := (i 1).isLt
  have h2 : (i 2).val < 16 := (i 2).isLt
  have h3 : (i 3).val < 128 := (i 3).isLt
  rw [Rect.mem_set_unit]
  refine ⟨fun h => ?_, fun h a => ?_⟩
  · have := h 0; simp at *; omega
  · fin_cases a <;> simp <;> omega
/-- of one plane of them; -/
theorem mem_rRcvMLp (r : Fin 5) (p : Fin 2) (i : S5x2x16x128.Idx) : i ∈ (rRcvMLp r p).set ↔ (i 0).val = r.val ∧ (i 1).val = p.val := by
  have h2 : (i 2).val < 16 := (i 2).isLt
  have h3 : (i 3).val < 128 := (i 3).isLt
  rw [Rect.mem_set_unit]
  refine ⟨fun h => ?_, fun h a => ?_⟩
  · have := h 0; have := h 1; simp at *; omega
  · fin_cases a <;> simp <;> omega
/-- of a head's attention; -/
theorem mem_rAtt1 (b : Fin 2) (h : Fin 8) (i : S256x512.Idx) : i ∈ (rAtt1 b h).set ↔ (i 0).val / 128 = b.val ∧ (i 1).val / 64 = h.val := by
  rw [Rect.mem_set_unit]
  refine ⟨fun h => ?_, fun h a => ?_⟩
  · have := h 0; have := h 1; simp at *; omega
  · fin_cases a <;> simp <;> omega
/-- of a batch element's attention; -/
theorem mem_rAtt (b : Fin 2) (i : S256x512.Idx) : i ∈ (rAtt b).set ↔ (i 0).val / 128 = b.val := by
  have h1 : (i 1).val < 512 := (i 1).isLt
  rw [Rect.mem_set_unit]
  refine ⟨fun h => ?_, fun h a => ?_⟩
  · have := h 0; simp at *; omega
  · fin_cases a <;> simp <;> omega
/-- of a batch element's result. -/
theorem mem_rOut (b : Fin 2) (i : S2x128x512.Idx) : i ∈ (rOut b).set ↔ (i 0).val = b.val := by
  have h1 : (i 1).val < 128 := (i 1).isLt
  have h2 : (i 2).val < 512 := (i 2).isLt
  rw [Rect.mem_set_unit]
  refine ⟨fun h => ?_, fun h a => ?_⟩
  · have := h 0; simp at *; omega
  · fin_cases a <;> simp <;> omega

/-! ## Reading and writing through a view -/

/-- Writing through a view what the view reads of `G`: the buffer then holds `G` on the view's elements. -/
theorem write_eq {sp : Space} {s : Shape} {e : EltTy} (v : View sig .tc sp s e) (f G : v.ty.Contents (Elt F)) (w : s.Idx → Elt F e)
    (hw : ∀ x, v.read (Elt F) G x = w x) (i : v.ty.Idx) : v.write (Elt F) f w Finset.univ i = if i ∈ v.set then G i else f i := by
  by_cases h : i ∈ v.set
  · rw [if_pos h]
    obtain ⟨x, -, rfl⟩ := Finset.mem_map.mp h
    rw [View.write_emb_of_mem _ _ (Finset.mem_univ x), ← hw x, View.read_apply, cast_cast, cast_eq]
  · rw [if_neg h, View.write_of_not_mem _ _ _ h]

/-- What lands: chunk `s` of the sender's partial outputs is, on the landing chunk, what the receiver's landing buffer is to hold. -/
theorem land_read (D : Inputs F) (r : Fin 5) (s : Fin 4) (c : Dev nD) (x : S4x128x64.Idx) :
    (oDst r s).view.read (Elt F) (landO D c) x = (oSrc s).view.read (Elt F) (st D r.val (peer r c)).o x := by
  obtain ⟨x0, x1, x2, rfl⟩ : ∃ (x0 : Fin 4) (x1 : Fin 128) (x2 : Fin 64), x = ix3 x0 x1 x2 := ⟨_, _, _, eq_ix3 x⟩
  show landO D c ((rRcvO r s).emb (Shape.reshapeEquiv _ (ix3 x0 x1 x2))) = (st D r.val (peer r c)).o ((rAccO s).emb (ix3 x0 x1 x2))
  have e : ((rRcvO r s).emb (Shape.reshapeEquiv (squeezes_S1x4x128x64_S4x128x64).numel_eq (ix3 x0 x1 x2)) : S5x16x128x64.Idx) = ix4 r (rowOf s x0) x1 x2 := by
    rw [Shape.reshapeEquiv_cons_one]
    refine ext4 ?_ ?_ ?_ ?_
    · show r.val + 1 * 0 = r.val; omega
    · show 4 * s.val + 1 * x0.val = 4 * s.val + x0.val; omega
    · show 0 + 1 * x1.val = x1.val; omega
    · show 0 + 1 * x2.val = x2.val; omega
  have e' : ((rAccO s).emb (ix3 x0 x1 x2) : S16x128x64.Idx) = ix3 (rowOf s x0) x1 x2 := by
    refine ext3 ?_ ?_ ?_
    · show 4 * s.val + 1 * x0.val = 4 * s.val + x0.val; omega
    · show 0 + 1 * x1.val = x1.val; omega
    · show 0 + 1 * x2.val = x2.val; omega
  exact (congrArg (landO D c) e).trans (congrArg (st D r.val (peer r c)).o e').symm

/-- What the transfer of the maxima and sums writes is what the partner sent. -/
theorem land_readML (D : Inputs F) (r : Fin 5) (c : Dev nD) (x : S2x16x128.Idx) :
    (mlDst r).view.read (Elt F) (landML D c) x = (st D r.val (peer r c)).ml x := by
  obtain ⟨x0, x1, x2, rfl⟩ : ∃ (x0 : Fin 2) (x1 : Fin 16) (x2 : Fin 128), x = ix3 x0 x1 x2 := ⟨_, _, _, eq_ix3 x⟩
  show landML D c ((rRcvML r).emb (Shape.reshapeEquiv _ (ix3 x0 x1 x2))) = _
  have e : ((rRcvML r).emb (Shape.reshapeEquiv (squeezes_S1x2x16x128_S2x16x128).numel_eq (ix3 x0 x1 x2)) : S5x2x16x128.Idx) = ix4 r x0 x1 x2 := by
    rw [Shape.reshapeEquiv_cons_one]
    refine ext4 ?_ ?_ ?_ ?_
    · show r.val + 1 * 0 = r.val; omega
    · show 0 + 1 * x0.val = x0.val; omega
    · show 0 + 1 * x1.val = x1.val; omega
    · show 0 + 1 * x2.val = x2.val; omega
  exact congrArg (landML D c) e

/-- A landed chunk, loaded, is the partner's chunk; a landed plane the partner's plane. -/
theorem load_landO (D : Inputs F) (r : Fin 5) (s : Fin 4) (c : Dev nD) :
    (rcvO).view.readAt (Elt F) (rRcvO r s).toLoadRect (landO D c) = chunkB (st D r.val (peer r c)) s := by
  funext x
  obtain ⟨x0, x1, x2, x3, rfl⟩ : ∃ (x0 : Fin 1) (x1 : Fin 4) (x2 : Fin 128) (x3 : Fin 64), x = ix4 x0 x1 x2 x3 := ⟨_, _, _, _, eq_ix4 x⟩
  have e : ((rRcvO r s).toLoadRect.idx (ix4 x0 x1 x2 x3) : S5x16x128x64.Idx) = ix4 r (rowOf s x1) x2 x3 := by
    refine ext4 ?_ ?_ ?_ ?_
    · show r.val + 1 * x0.val = r.val; omega
    · show 4 * s.val + 1 * x1.val = 4 * s.val + x1.val; omega
    · show 0 + 1 * x2.val = x2.val; omega
    · show 0 + 1 * x3.val = x3.val; omega
  exact congrArg (landO D c) e
/-- A load of a landed plane reads the partner's. -/
theorem load_landML (D : Inputs F) (r : Fin 5) (p : Fin 2) (c : Dev nD) :
    (rcvML).view.readAt (Elt F) (rRcvMLp r p).toLoadRect (landML D c) = planeB (st D r.val (peer r c)) p := by
  funext x
  obtain ⟨x0, x1, x2, x3, rfl⟩ : ∃ (x0 : Fin 1) (x1 : Fin 1) (x2 : Fin 16) (x3 : Fin 128), x = ix4 x0 x1 x2 x3 := ⟨_, _, _, _, eq_ix4 x⟩
  have e : ((rRcvMLp r p).toLoadRect.idx (ix4 x0 x1 x2 x3) : S5x2x16x128.Idx) = ix4 r p x2 x3 := by
    refine ext4 ?_ ?_ ?_ ?_
    · show r.val + 1 * x0.val = r.val; omega
    · show p.val + 1 * x1.val = p.val; omega
    · show 0 + 1 * x2.val = x2.val; omega
    · show 0 + 1 * x3.val = x3.val; omega
  exact congrArg (landML D c) e

/-! ## What each store leaves -/

/-- A row's batch element and head. -/
theorem bOf_row (b : Fin 2) (h : Fin 8) (n : Fin 16) (e : n.val = 8 * b.val + h.val) : bOf n = b ∧ hOf n = h := by
  constructor <;> (apply Fin.ext; simp only [bOf, hOf]; omega)

/-- What a head stores is its part of the local outputs; -/
theorem store_headO (D : Inputs F) (c : Dev nD) (b : Fin 2) (h : Fin 8) (x : (rAccO1 b h).shape.Idx) :
    (accO.access (rAccO1 b h)).read (Elt F) (localO D c) x = headO h (qAt D c b) (kAt D c b h) (vAt D c b h) x := by
  obtain ⟨x0, x1, x2, rfl⟩ : ∃ (x0 : Fin 1) (x1 : Fin 128) (x2 : Fin 64), x = ix3 x0 x1 x2 := ⟨_, _, _, eq_ix3 x⟩
  obtain ⟨e1, e2⟩ := bOf_row b h (((rAccO1 b h).emb (ix3 x0 x1 x2) : S16x128x64.Idx) 0) (by show 8 * b.val + h.val + 1 * x0.val = _; omega)
  have e3 : (((rAccO1 b h).emb (ix3 x0 x1 x2) : S16x128x64.Idx) 1 : Fin 128) = x1 := Fin.ext (by show 0 + 1 * x1.val = _; omega)
  have e4 : (((rAccO1 b h).emb (ix3 x0 x1 x2) : S16x128x64.Idx) 2 : Fin 64) = x2 := Fin.ext (by show 0 + 1 * x2.val = _; omega)
  show localO D c ((rAccO1 b h).emb (ix3 x0 x1 x2)) = _
  unfold localO
  rw [e1, e2, e3, e4, show x0 = 0 from Fin.ext (by omega)]

/-- of the local maxima; -/
theorem store_headM (D : Inputs F) (c : Dev nD) (b : Fin 2) (h : Fin 8) (x : (rML1 0 b h).shape.Idx) :
    (accML.access (rML1 0 b h)).read (Elt F) (localML D c) x = headM h (qAt D c b) (kAt D c b h) x := by
  obtain ⟨x0, x1, x2, rfl⟩ : ∃ (x0 : Fin 1) (x1 : Fin 1) (x2 : Fin 128), x = ix3 x0 x1 x2 := ⟨_, _, _, eq_ix3 x⟩
  obtain ⟨e1, e2⟩ := bOf_row b h (((rML1 0 b h).emb (ix3 x0 x1 x2) : S2x16x128.Idx) 1) (by show 8 * b.val + h.val + 1 * x1.val = _; omega)
  have e4 : (((rML1 0 b h).emb (ix3 x0 x1 x2) : S2x16x128.Idx) 2 : Fin 128) = x2 := Fin.ext (by show 0 + 1 * x2.val = _; omega)
  show localML D c ((rML1 0 b h).emb (ix3 x0 x1 x2)) = _
  unfold localML
  rw [if_pos (by show 0 + 1 * x0.val = 0; omega), e1, e2, e4, show x0 = 0 from Fin.ext (by omega), show x1 = 0 from Fin.ext (by omega)]

/-- of the local sums. -/
theorem store_headL (D : Inputs F) (c : Dev nD) (b : Fin 2) (h : Fin 8) (x : (rML1 1 b h).shape.Idx) :
    (accML.access (rML1 1 b h)).read (Elt F) (localML D c) x = headL h (qAt D c b) (kAt D c b h) x := by
  obtain ⟨x0, x1, x2, rfl⟩ : ∃ (x0 : Fin 1) (x1 : Fin 1) (x2 : Fin 128), x = ix3 x0 x1 x2 := ⟨_, _, _, eq_ix3 x⟩
  obtain ⟨e1, e2⟩ := bOf_row b h (((rML1 1 b h).emb (ix3 x0 x1 x2) : S2x16x128.Idx) 1) (by show 8 * b.val + h.val + 1 * x1.val = _; omega)
  have e4 : (((rML1 1 b h).emb (ix3 x0 x1 x2) : S2x16x128.Idx) 2 : Fin 128) = x2 := Fin.ext (by show 0 + 1 * x2.val = _; omega)
  show localML D c ((rML1 1 b h).emb (ix3 x0 x1 x2)) = _
  unfold localML
  rw [if_neg (by show ¬ (1 + 1 * x0.val = 0); omega), e1, e2, e4, show x0 = 0 from Fin.ext (by omega), show x1 = 0 from Fin.ext (by omega)]

/-- What a merge stores is its part of the next state: the maxima, -/
theorem store_step0 (a b : St F) (x : (rMLp 0).shape.Idx) : (accML.access (rMLp 0)).read (Elt F) (step a b).ml x
    = (shapeCast S1x16x128 (newM (planeA a 0) (planeB b 0)) shapeCasts_S16x128_S1x16x128 : FVec F S1x16x128 .f32) x := by
  obtain ⟨x0, x1, x2, rfl⟩ : ∃ (x0 : Fin 1) (x1 : Fin 16) (x2 : Fin 128), x = ix3 x0 x1 x2 := ⟨_, _, _, eq_ix3 x⟩
  have e3 : (((rMLp 0).emb (ix3 x0 x1 x2) : S2x16x128.Idx) 1 : Fin 16) = x1 := Fin.ext (by show 0 + 1 * x1.val = _; omega)
  have e4 : (((rMLp 0).emb (ix3 x0 x1 x2) : S2x16x128.Idx) 2 : Fin 128) = x2 := Fin.ext (by show 0 + 1 * x2.val = _; omega)
  show (step a b).ml ((rMLp 0).emb (ix3 x0 x1 x2)) = _
  unfold step
  dsimp only
  rw [if_pos (by show 0 + 1 * x0.val = 0; omega), e3, e4, show x0 = 0 from Fin.ext (by omega)]

/-- the sums, -/
theorem store_step1 (a b : St F) (x : (rMLp 1).shape.Idx) : (accML.access (rMLp 1)).read (Elt F) (step a b).ml x
    = (shapeCast S1x16x128 (newL (planeA a 0) (planeA a 1) (planeB b 0) (planeB b 1)) shapeCasts_S16x128_S1x16x128 : FVec F S1x16x128 .f32) x := by
  obtain ⟨x0, x1, x2, rfl⟩ : ∃ (x0 : Fin 1) (x1 : Fin 16) (x2 : Fin 128), x = ix3 x0 x1 x2 := ⟨_, _, _, eq_ix3 x⟩
  have e3 : (((rMLp 1).emb (ix3 x0 x1 x2) : S2x16x128.Idx) 1 : Fin 16) = x1 := Fin.ext (by show 0 + 1 * x1.val = _; omega)
  have e4 : (((rMLp 1).emb (ix3 x0 x1 x2) : S2x16x128.Idx) 2 : Fin 128) = x2 := Fin.ext (by show 0 + 1 * x2.val = _; omega)
  show (step a b).ml ((rMLp 1).emb (ix3 x0 x1 x2)) = _
  unfold step
  dsimp only
  rw [if_neg (by show ¬ (1 + 1 * x0.val = 0); omega), e3, e4, show x0 = 0 from Fin.ext (by omega)]
  rfl

/-- a chunk of the outputs. -/
theorem store_chunk (a b : St F) (s : Fin 4) (x : (rAccO s).shape.Idx) : (accO.access (rAccO s)).read (Elt F) (step a b).o x
    = mergedT s (stA a b) (stB a b) (chunkA a s) (chunkB b s) x := by
  obtain ⟨x0, x1, x2, rfl⟩ : ∃ (x0 : Fin 4) (x1 : Fin 128) (x2 : Fin 64), x = ix3 x0 x1 x2 := ⟨_, _, _, eq_ix3 x⟩
  have e1 : sOf (((rAccO s).emb (ix3 x0 x1 x2) : S16x128x64.Idx) 0) = s := Fin.ext (by show (4 * s.val + 1 * x0.val) / 4 = _; omega)
  have e2 : tOf (((rAccO s).emb (ix3 x0 x1 x2) : S16x128x64.Idx) 0) = x0 := Fin.ext (by show (4 * s.val + 1 * x0.val) % 4 = _; omega)
  have e3 : (((rAccO s).emb (ix3 x0 x1 x2) : S16x128x64.Idx) 1 : Fin 128) = x1 := Fin.ext (by show 0 + 1 * x1.val = _; omega)
  have e4 : (((rAccO s).emb (ix3 x0 x1 x2) : S16x128x64.Idx) 2 : Fin 64) = x2 := Fin.ext (by show 0 + 1 * x2.val = _; omega)
  show (step a b).o ((rAccO s).emb (ix3 x0 x1 x2)) = _
  unfold step
  dsimp only
  rw [e1, e2, e3, e4]

/-- What a head stores last is its part of the attention. -/
theorem store_att (D : Inputs F) (c : Dev nD) (b : Fin 2) (h : Fin 8) (x : (rAtt1 b h).shape.Idx) :
    (attM.access (rAtt1 b h)).read (Elt F) (attAt D c) x = attHead h (normAt D c b (s0Of b) (s1Of b)) x := by
  obtain ⟨x0, x1, rfl⟩ : ∃ (x0 : Fin 128) (x1 : Fin 64), x = ix2 x0 x1 := ⟨_, _, eq_ix2 x⟩
  have e1 : bRow (((rAtt1 b h).emb (ix2 x0 x1) : S256x512.Idx) 0) = b := Fin.ext (by show (128 * b.val + 1 * x0.val) / 128 = _; omega)
  have e2 : iRow (((rAtt1 b h).emb (ix2 x0 x1) : S256x512.Idx) 0) = x0 := Fin.ext (by show (128 * b.val + 1 * x0.val) % 128 = _; omega)
  have e3 : hCol (((rAtt1 b h).emb (ix2 x0 x1) : S256x512.Idx) 1) = h := Fin.ext (by show (64 * h.val + 1 * x1.val) / 64 = _; omega)
  have e4 : dCol (((rAtt1 b h).emb (ix2 x0 x1) : S256x512.Idx) 1) = x1 := Fin.ext (by show (64 * h.val + 1 * x1.val) % 64 = _; omega)
  show attAt D c ((rAtt1 b h).emb (ix2 x0 x1)) = _
  unfold attAt
  rw [e1, e2, e3, e4]

/-- What is stored at the end is a batch element's part of the result. -/
theorem store_out (D : Inputs F) (c : Dev nD) (b : Fin 2) (x : (rOut b).shape.Idx) :
    (outM.access (rOut b)).read (Elt F) (outAt D c) x = outRows (attRowsAt D c b) (woAt D c) x := by
  obtain ⟨x0, x1, x2, rfl⟩ : ∃ (x0 : Fin 1) (x1 : Fin 128) (x2 : Fin 512), x = ix3 x0 x1 x2 := ⟨_, _, _, eq_ix3 x⟩
  have e1 : (((rOut b).emb (ix3 x0 x1 x2) : S2x128x512.Idx) 0 : Fin 2) = b := Fin.ext (by show b.val + 1 * x0.val = _; omega)
  have e3 : (((rOut b).emb (ix3 x0 x1 x2) : S2x128x512.Idx) 1 : Fin 128) = x1 := Fin.ext (by show 0 + 1 * x1.val = _; omega)
  have e4 : (((rOut b).emb (ix3 x0 x1 x2) : S2x128x512.Idx) 2 : Fin 512) = x2 := Fin.ext (by show 0 + 1 * x2.val = _; omega)
  show outAt D c ((rOut b).emb (ix3 x0 x1 x2)) = _
  unfold outAt
  rw [e1, e3, e4, show x0 = 0 from Fin.ext (by omega)]

end Cert.KernelIdealProof
-- ==== Proof.Sched.lean ====
/-
# The protocol: cells, payments, payloads with their contents

A device meets its five partners at the barrier semaphore: the signal to the partner of round `r` hands over the
landing places of that round. Every transfer of a round has a cell of its own on each side: the send cell gives the
source back, the receive cell hands over what landed.
-/
module

public import proofs.«01_k».proof.Proof.Spec
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state of the protocol; -/
abbrev UB : Type := URounds (GSem nD τ sig) (Fin 5)
/-- with the pipeline's. -/
abbrev UU : Type := UR sig nD τ × UB

local notation "𝕄" => MT nD τ sig Unit (Elt F) ℕ UU ℕ

/-- The pipeline's part of it; -/
abbrev EP : Emb (UR sig nD τ) (MT nD τ sig Unit (Elt F) ℕ UU ℕ) := embL
/-- the protocol's part. -/
abbrev ER : Emb UB (MT nD τ sig Unit (Elt F) ℕ UU ℕ) := embR

/-! ## The cells -/

/-- A transfer of a device: chunk `s` of round `r`, or the maxima and sums of round `r`. -/
abbrev Key := (Fin 5 × Fin 4) ⊕ Fin 5
/-- A cell of a device: its barrier, or the send (`false`) or receive (`true`) cell of a transfer. -/
abbrev Ck := Option (Bool × Key)

/-- The send semaphore of a transfer; -/
def sendS : Key → DmaSem sig | .inl p => sendO p.1 p.2 | .inr r => sendML r
/-- its receive semaphore. -/
def recvS : Key → DmaSem sig | .inl p => recvO p.1 p.2 | .inr r => recvML r
/-- The semaphore of a cell. -/
def csem : Ck → SemLoc sig
  | none => .reg barS
  | some (false, k) => .dma (sendS k)
  | some (true, k) => .dma (recvS k)

/-- The number of a cell's semaphore. -/
def semNo : Bool × Key → ℕ
  | (false, .inl p) => 6 + 4 * p.1.val + p.2.val
  | (true, .inl p) => 26 + 4 * p.1.val + p.2.val
  | (false, .inr r) => 46 + r.val
  | (true, .inr r) => 51 + r.val

/-- The numbers of the semaphores: a chunk's send, -/
theorem sendO_val : ∀ (r : Fin 5) (s : Fin 4), (sendO r s).val = 6 + 4 * r.val + s.val := by decide
/-- a chunk's receive, -/
theorem recvO_val : ∀ (r : Fin 5) (s : Fin 4), (recvO r s).val = 26 + 4 * r.val + s.val := by decide
/-- the send of the maxima and sums, -/
theorem sendML_val : ∀ r : Fin 5, (sendML r).val = 46 + r.val := by decide
/-- their receive. -/
theorem recvML_val : ∀ r : Fin 5, (recvML r).val = 51 + r.val := by decide

/-- A semaphore's number. -/
def dmaNo : SemLoc sig → ℕ | .dma q => q.val | _ => 0
/-- The number of a transfer's semaphore. -/
theorem dmaNo_csem (x : Bool × Key) : dmaNo (csem (some x)) = semNo x := by
  obtain ⟨b, k⟩ := x
  cases b <;> cases k <;> simp only [csem, dmaNo, sendS, recvS, semNo, sendO_val, recvO_val, sendML_val, recvML_val]

/-- Different transfers have different numbers, -/
theorem semNo_injective : Function.Injective semNo := by
  rintro ⟨b, k⟩ ⟨b', k'⟩ h
  rcases b <;> rcases b' <;> rcases k with ⟨r, s⟩ | r <;> rcases k' with ⟨r', s'⟩ | r' <;> simp only [semNo] at h <;>
    first
      | (exfalso; omega)
      | (have h1 : r = r' := by omega
         have h2 : s = s' := by omega
         subst h1; subst h2; rfl)
      | (have h1 : r = r' := by omega
         subst h1; rfl)

/-- so different cells have different semaphores. -/
theorem csem_injective : Function.Injective csem := by
  intro a b h
  rcases a with _ | a <;> rcases b with _ | b
  · rfl
  · obtain ⟨b, k⟩ := b; cases b <;> cases h
  · obtain ⟨a, k⟩ := a; cases a <;> cases h
  · exact congrArg some (semNo_injective (by rw [← dmaNo_csem, ← dmaNo_csem, h]))

/-- A cell of a device; -/
abbrev kcell (x : Dev nD × Ck) : GSem nD τ sig := ((x.1 : Thread nD τ), csem x.2)
/-- its barrier; -/
abbrev barCell (c : Dev nD) : GSem nD τ sig := ((c : Thread nD τ), .reg barS)
/-- a send cell; -/
abbrev sendCell (c : Dev nD) (k : Key) : GSem nD τ sig := ((c : Thread nD τ), .dma (sendS k))
/-- a receive cell. -/
abbrev recvCell (c : Dev nD) (k : Key) : GSem nD τ sig := ((c : Thread nD τ), .dma (recvS k))

/-- Different cells of the devices are different semaphores of the mesh. -/
theorem kcell_injective : Function.Injective (kcell : Dev nD × Ck → GSem nD τ sig) := by
  rintro ⟨c, k⟩ ⟨c', k'⟩ h
  have h1 : c = c' := by have := congrArg (fun g : GSem nD τ sig => g.1.1) h; exact this
  subst h1
  exact congrArg _ (csem_injective (congrArg Prod.snd h))

/-- Which cell a semaphore is. -/
def dec : SemLoc sig → Option Ck := Function.partialInv csem
/-- A cell is recovered from its semaphore. -/
theorem dec_csem (k : Ck) : dec (csem k) = some k := Function.partialInv_left csem_injective k

/-! ## The amounts -/

/-- The round of a transfer. -/
def rnd : Key → Fin 5 | .inl p => p.1 | .inr r => r
/-- The credit of a transfer. -/
def N : Key → ℕ
  | .inl p => (oDst p.1 p.2).view.dmaCredit
  | .inr r => (mlDst r).view.dmaCredit
/-- A transfer's credit is positive. -/
theorem N_pos (k : Key) : 0 < N k := by
  cases k
  · exact View.dmaCredit_pos _ (by decide)
  · exact View.dmaCredit_pos _ (by decide)
/-- The credit of a chunk's source; -/
theorem N_src (s : Fin 4) (r : Fin 5) : (oSrc s).view.dmaCredit = N (.inl (r, s)) := rfl
/-- of the maxima and sums. -/
theorem N_srcML (r : Fin 5) : accML.view.dmaCredit = N (.inr r) := rfl

/-! ## The payloads -/

section Payloads

variable (D : Inputs F)

/-- A landing place of device `c`, holding anything; -/
def land (c : Dev nD) : Key → sProp 𝕄
  | .inl p => iprop(∃ f : Buf (Elt F) ((oDst p.1 p.2).view.loc (c : Thread nD τ)), (oDst p.1 p.2).view.loc (c : Thread nD τ) ↦[(oDst p.1 p.2).view.set]{fullShare} f)
  | .inr r => iprop(∃ f : Buf (Elt F) ((mlDst r).view.loc (c : Thread nD τ)), (mlDst r).view.loc (c : Thread nD τ) ↦[(mlDst r).view.set]{fullShare} f)
/-- holding what its partner of the round sent; -/
def landed (c : Dev nD) : Key → sProp 𝕄
  | .inl p => (oDst p.1 p.2).view.loc (c : Thread nD τ) ↦[(oDst p.1 p.2).view.set]{fullShare} (landO D c : Buf (Elt F) ((oDst p.1 p.2).view.loc (c : Thread nD τ)))
  | .inr r => (mlDst r).view.loc (c : Thread nD τ) ↦[(mlDst r).view.set]{fullShare} (landML D c : Buf (Elt F) ((mlDst r).view.loc (c : Thread nD τ)))
/-- what device `c` sends: a chunk of its state before the round, or the maxima and sums of it. -/
def sent (c : Dev nD) : Key → sProp 𝕄
  | .inl p => (oSrc p.2).view.loc (c : Thread nD τ) ↦[(oSrc p.2).view.set]{fullShare} ((st D p.1.val c).o : Buf (Elt F) ((oSrc p.2).view.loc (c : Thread nD τ)))
  | .inr r => accML.view.loc (c : Thread nD τ) ↦[accML.view.set]{fullShare} ((st D r.val c).ml : Buf (Elt F) (accML.view.loc (c : Thread nD τ)))

omit [FloatOps F] in
instance land_storable (c : Dev nD) (k : Key) : BI.Storable (upEmb : UEmb _ 𝕄) (land (F := F) c k) := by
  cases k <;> (unfold land; infer_instance)
instance landed_storable (c : Dev nD) (k : Key) : BI.Storable (upEmb : UEmb _ 𝕄) (landed D c k) := by
  cases k <;> (unfold landed; infer_instance)
instance sent_storable (c : Dev nD) (k : Key) : BI.Storable (upEmb : UEmb _ 𝕄) (sent D c k) := by
  cases k <;> (unfold sent; infer_instance)

omit [FloatOps F] in
/-- What landed can be landed on. -/
theorem land_of_landed [FloatOps F] (c : Dev nD) (k : Key) : landed D c k ⊢ land c k := by
  cases k
  · unfold landed land; iintro H; iexists _; iexact H
  · unfold landed land; iintro H; iexists _; iexact H

/-- The landing places of round `r`. -/
def landRound (c : Dev nD) (r : Fin 5) : sProp 𝕄 :=
  iprop(land c (.inl (r, 0)) ∗ land c (.inl (r, 1)) ∗ land c (.inl (r, 2)) ∗ land c (.inl (r, 3)) ∗ land c (.inr r))

omit [FloatOps F] in
instance landRound_storable (c : Dev nD) (r : Fin 5) : BI.Storable (upEmb : UEmb _ 𝕄) (landRound (F := F) c r) := by
  unfold landRound; infer_instance

/-! ## The schedule -/

/-- The duties of a cell; -/
def dutiesOf : Option Ck → Finset (Fin 5)
  | some none => Finset.univ
  | some (some _) => {0}
  | none => ∅
/-- the amount of each; -/
def amountOf : Option Ck → ℕ
  | some (some x) => N x.2
  | _ => 1
/-- what each hands over. -/
def payOf (c : Dev nD) (d : Fin 5) : Option Ck → sProp 𝕄
  | some none => landRound (peer d c) d
  | some (some (false, k)) => sent D c k
  | some (some (true, k)) => landed D c k
  | none => iprop(emp)

instance payOf_storable (c : Dev nD) (d : Fin 5) (o : Option Ck) : BI.Storable (upEmb : UEmb _ 𝕄) (payOf D c d o) := by
  rcases o with _ | _ | ⟨b, k⟩
  · unfold payOf; infer_instance
  · unfold payOf; infer_instance
  · cases b <;> (unfold payOf; infer_instance)

/-- One round: a barrier cell has a duty of one unit for each partner, handing over that partner's landing places of its
    round; a send cell gives back what was sent, a receive cell what landed. -/
def sched : Rounds.Schedule (GSem nD τ sig) (Fin 5) 𝕄 where
  duties g r := if r = 0 ∧ g.1.2 = .tc then dutiesOf (dec g.2) else ∅
  unitless _ := False
  amount g _ _ := amountOf (dec g.2)
  payload g _ d := payOf D g.1.1 d (dec g.2)
  amount_pos g _ _ _ := by
    rcases dec g.2 with _ | _ | x
    · exact Nat.one_pos
    · exact Nat.one_pos
    · exact N_pos _

instance sched_storable (g : GSem nD τ sig) (r : ℕ) (d : Fin 5) : BI.Storable (upEmb : UEmb _ 𝕄) ((sched D).payload g r d) :=
  payOf_storable D g.1.1 d (dec g.2)

/-- The schedule at a cell of a device: its duties, -/
theorem duties_at (x : Dev nD × Ck) : (sched D).duties (kcell x) 0 = dutiesOf (some x.2) := by
  dsimp only [sched]; rw [if_pos ⟨rfl, rfl⟩, dec_csem]
/-- their amounts, -/
theorem amount_at (x : Dev nD × Ck) (d : Fin 5) : (sched D).amount (kcell x) 0 d = amountOf (some x.2) := by
  dsimp only [sched]; rw [dec_csem]
/-- and what they hand over. -/
theorem payload_at (x : Dev nD × Ck) (d : Fin 5) : (sched D).payload (kcell x) 0 d = payOf D x.1 d (some x.2) := by
  dsimp only [sched]; rw [dec_csem]
/-- After the first round no cell has duties. -/
theorem duties_later (g : GSem nD τ sig) : ∀ r, 1 ≤ r → (sched D).duties g r = ∅ :=
  fun r hr => by dsimp only [sched]; rw [if_neg fun h => by omega]

/-- A barrier expects five, -/
theorem expect_bar (c : Dev nD) : (sched D).expect (barCell c) 0 = 5 := by
  unfold Schedule.expect Schedule.amountOf
  rw [show barCell c = kcell (c, none) from rfl, duties_at, Finset.sum_congr rfl fun d _ => amount_at D (c, none) d]
  rfl
/-- a transfer's cell one transfer. -/
theorem expect_xfer (c : Dev nD) (x : Bool × Key) : (sched D).expect (kcell (c, some x)) 0 = N x.2 := by
  unfold Schedule.expect Schedule.amountOf
  rw [duties_at, Finset.sum_congr rfl fun d _ => amount_at D (c, some x) d]
  exact Finset.sum_singleton _ _

/-- The barrier hands over the landing places at the five partners, -/
theorem rest_bar (c : Dev nD) : bigSep ((sched D).duties (barCell c) 0 \ ∅) (fun d => (sched D).payload (barCell c) 0 d)
    = iprop(landRound (peer 0 c) 0 ∗ landRound (peer 1 c) 1 ∗ landRound (peer 2 c) 2 ∗ landRound (peer 3 c) 3 ∗ landRound (peer 4 c) 4) := by
  rw [Finset.sdiff_empty, show barCell c = kcell (c, none) from rfl, duties_at]
  simp only [payload_at]
  exact bigSep_univ_eq_bigSepL [0, 1, 2, 3, 4] (by decide) (by decide) _
/-- a transfer's cell its one payload. -/
theorem rest_xfer (c : Dev nD) (x : Bool × Key) : bigSep ((sched D).duties (kcell (c, some x)) 0 \ ∅) (fun d => (sched D).payload (kcell (c, some x)) 0 d)
    = payOf D c 0 (some (some x)) := by
  rw [Finset.sdiff_empty, duties_at]
  simp only [payload_at]
  exact bigSep_singleton

end Payloads

/-! ## What a device owes, in the order it pays -/

/-- A payment: the barrier signal to the partner of a round, or a transfer. -/
abbrev Due := Fin 5 ⊕ Key

/-- The cell a due pays; -/
def dueCell (c : Dev nD) : Due → GSem nD τ sig
  | .inl d => barCell (peer d c)
  | .inr k => recvCell (peer (rnd k) c) k
/-- how much it pays. -/
def dueAmt : Due → ℕ
  | .inl _ => 1
  | .inr k => N k

/-- What is owed while the payments of a list are to come. -/
def owedL (c : Dev nD) : List Due → CellTallies nD τ sig Unit
  | [] => 0
  | x :: l => owedL c l + tallyAt (dueCell c x) () (dueAmt x)

/-- The transfers of a round after the first, in order. -/
abbrev roundDues (r : Fin 5) : List Due := [.inr (.inr r), .inr (.inl (r, 0)), .inr (.inl (r, 1)), .inr (.inl (r, 2)), .inr (.inl (r, 3))]
/-- The transfers, in order; -/
abbrev xferDues : List Due :=
  [.inr (.inl (0, 0)), .inr (.inl (0, 1)), .inr (.inr 0), .inr (.inl (0, 2)), .inr (.inl (0, 3))]
    ++ (roundDues 1 ++ (roundDues 2 ++ (roundDues 3 ++ roundDues 4)))
/-- all payments, in order. -/
abbrev allDues : List Due := [.inl 0, .inl 1, .inl 2, .inl 3, .inl 4] ++ xferDues

/-- No due is listed twice, -/
theorem allDues_nodup : allDues.Nodup := by decide
/-- and all are listed. -/
theorem allDues_univ : (Finset.univ : Finset Due) = allDues.toFinset := by decide

/-! ## The levels -/

/-- The levels that there are: one at every semaphore of a core. -/
def L (g : GSem nD τ sig) : Finset Unit := if g.1.2 = .tc then {()} else ∅
/-- None elsewhere; -/
theorem L_of_ne (g : GSem nD τ sig) (h : g.1.2 ≠ .tc) : L g = ∅ := if_neg h
/-- one there. -/
theorem L_tc (c : Dev nD) (sm : SemLoc sig) : L ((c : Thread nD τ), sm) = {()} := if_pos rfl

/-- Staging and send cells at 0, the barrier at 1, the receive cells of round `r` at `2 + 2 r` (maxima and sums) and
    `3 + 2 r` (chunks). -/
def lvCk : Option Ck → ℕ
  | some none => 1
  | some (some (true, .inr r)) => 2 + 2 * r.val
  | some (some (true, .inl p)) => 3 + 2 * p.1.val
  | _ => 0
/-- The level of a semaphore; -/
def lv (g : GSem nD τ sig) (_ : Unit) : ℕ := lvCk (dec g.2)
/-- of a due. -/
def lvDue : Due → ℕ
  | .inl _ => 1
  | .inr k => lvCk (some (some (true, k)))

/-- A due has the level of its cell, -/
theorem lv_due (c : Dev nD) (x : Due) : lv (dueCell c x) () = lvDue x := by
  cases x with
  | inl d => exact congrArg lvCk (dec_csem none)
  | inr k => exact congrArg lvCk (dec_csem (some (true, k)))
/-- a cell the level of its kind. -/
theorem lv_kcell (x : Dev nD × Ck) : lv (kcell x) () = lvCk (some x.2) := congrArg lvCk (dec_csem x.2)
/-- Every due's cell has a level. -/
theorem L_due (c : Dev nD) (x : Due) : L (dueCell c x) = {()} := by cases x <;> exact if_pos rfl

/-- What is owed is owed by a due of the list. -/
theorem owedL_pos (c : Dev nD) {g : GSem nD τ sig} {u : Unit} : ∀ {l : List Due}, 0 < owedL c l g u → ∃ x ∈ l, g = dueCell c x
  | [], h => absurd h (by simp [owedL])
  | x :: l, h => by
    unfold owedL at h
    rw [Pi.add_apply, Finsupp.add_apply, tallyAt_apply] at h
    by_cases hx : g = dueCell c x
    · exact ⟨x, List.mem_cons_self, hx⟩
    · rw [if_neg (fun h' => hx h'.1), Nat.add_zero] at h
      obtain ⟨y, hy, hg⟩ := owedL_pos c h
      exact ⟨y, List.mem_cons_of_mem _ hy, hg⟩

omit [FloatOps F] in
/-- A wait below everything still owed. -/
theorem mayWait (c : Dev nD) (sm : SemLoc sig) (l : List Due) (n : ℕ) (hn : lv ((c : Thread nD τ), sm) () = n) (h : ∀ x ∈ l, n < lvDue x) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨x, -, rfl⟩ := owedL_pos c hg; rw [L_due]; exact Finset.mem_singleton_self _)
    (fun p hp => by rw [Finset.mem_singleton.mp hp]; exact hn.le)
    (fun g u hg => by obtain ⟨x, hx, rfl⟩ := owedL_pos c hg; exact (h x hx).trans_eq (lv_due c x).symm)

end Cert.KernelIdealProof
-- ==== Proof.Steps.lean ====
/-
# The steps of the body: tracked stores, transfers started and finished
-/
module

public import proofs.«01_k».proof.Proof.Sched

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel has no variants. -/
abbrev 𝒱₀ : Variants := Variants.none

/-- The weakest precondition of a step of device `c`'s body. -/
abbrev wpB (c : Dev nD) {α : Type} (p : P F α) (Q : α → sProp 𝕄) : sProp 𝕄 :=
  wp frame (wpE (defs₀ (F := F)) 𝒱₀ (c : Thread nD τ) none) Set.univ p Q

/-- A program that returns; -/
theorem wpB_ret (c : Dev nD) {α : Type} (a : α) (Q : α → sProp 𝕄) : wpB c (.ret a) Q = iprop(|={Set.univ}=> Q a) := rfl
/-- the same, as `pure`; -/
theorem wpB_pure (c : Dev nD) {α : Type} (a : α) (Q : α → sProp 𝕄) : wpB c (pure a) Q = iprop(|={Set.univ}=> Q a) := rfl
/-- a program followed by another. -/
theorem wpB_bind (c : Dev nD) {α β : Type} (p : P F α) (k : α → P F β) (Q : β → sProp 𝕄) : wpB c (p >>= k) Q = wpB c p (fun a => wpB c (k a) Q) :=
  wp_bind _ _ _ _ _ _

/-! ## A buffer known on part of its elements -/

/-- The elements `S` of a buffer, those in `A` holding what `G` has there. -/
def held {s : Shape} {e : EltTy} (m : Memref sig .tc .vmem s e) (c : Dev nD) (S : Finset (Idx (m.view.loc (c : Thread nD τ))))
    (A : Idx (m.view.loc (c : Thread nD τ)) → Prop) (G : Buf (Elt F) (m.view.loc (c : Thread nD τ))) : sProp 𝕄 :=
  iprop(∃ f : Buf (Elt F) (m.view.loc (c : Thread nD τ)), ⌜∀ i, A i → f i = G i⌝ ∗ m.view.loc (c : Thread nD τ) ↦[S]{fullShare} f)

section Held
variable {s : Shape} {e : EltTy} {m : Memref sig .tc .vmem s e} {c : Dev nD} {S : Finset (Idx (m.view.loc (c : Thread nD τ)))}
  {A : Idx (m.view.loc (c : Thread nD τ)) → Prop} {G : Buf (Elt F) (m.view.loc (c : Thread nD τ))}

omit [FloatOps F] in
/-- A region with known contents is held, nothing written yet. -/
theorem held_of (f : Buf (Elt F) (m.view.loc (c : Thread nD τ))) :
    (m.view.loc (c : Thread nD τ) ↦[S]{fullShare} f : sProp 𝕄) ⊢ held m c S (fun _ => False) G := by
  unfold held; iintro H; iexists f; isplitr
  · ipureintro; exact fun i h => h.elim
  iexact H

omit [FloatOps F] in
/-- Less may be known of what is written. -/
theorem held_weaken {A' : Idx (m.view.loc (c : Thread nD τ)) → Prop} (h : ∀ i, A' i → A i) : (held m c S A G : sProp 𝕄) ⊢ held m c S A' G := by
  unfold held; iintro ⟨%f, %hf, H⟩; iexists f; isplitr
  · ipureintro; exact fun i hi => hf i (h i hi)
  iexact H

omit [FloatOps F] in
/-- Known on all of them: held at exactly those contents. -/
theorem held_all (h : ∀ i ∈ S, A i) : (held m c S A G : sProp 𝕄) ⊢ (m.view.loc (c : Thread nD τ) ↦[S]{fullShare} G) := by
  unfold held; iintro ⟨%f, %hf, H⟩
  iapply (Entails.of_eq (pointsTo_congr (fun i hi => hf i (h i hi)))); iexact H

/-- A load whose value is not used. -/
theorem wp_load_held {α : Type} {Q : α → sProp 𝕄} {r : LoadRect s} {hl : m.view.LoadsAt r} {k : (r.shape.Idx → Elt F e) → P F α} (p : P F α) (hk : ∀ x, k x = p)
    (hS : m.view.setOn r.set ⊆ S) :
    held m c S A G ⊢ iprop((held m c S A G -∗ wpB c p Q) -∗ wpB c (.op (.load m r hl) k) Q) := by
  unfold held; iintro ⟨%f, %hf, H⟩ Hk
  iapply (wp_load 𝒱₀ (c : Thread nD τ) none Set.univ (m := m) hS) $$ H; iintro H
  rw [hk]
  iapply Hk
  iexists f; isplitr
  · ipureintro; exact hf
  iexact H

/-- A store of what `G` has at the elements stored. -/
theorem wp_store_held {α : Type} {Q : α → sProp 𝕄} {r : Rect s} {w : r.shape.Idx → Elt F e} {hx : (m.access r).Stores Finset.univ} {hm : _} {k : PUnit → P F α}
    (hS : (m.access r).set ⊆ S) (hw : ∀ x, (m.access r).read (Elt F) G x = w x) :
    held m c S A G ⊢ iprop((held m c S (fun i => A i ∨ i ∈ (m.access r).set) G -∗ wpB c (k ⟨⟩) Q) -∗ wpB c (.op (.store m r w Finset.univ hx hm) k) Q) := by
  unfold held; iintro ⟨%f, %hf, H⟩ Hk
  iapply (wp_store 𝒱₀ (c : Thread nD τ) none Set.univ (m := m) (r := r) (Mk := Finset.univ) hS) $$ H; iintro H
  iapply Hk
  iexists _; isplitr
  rotate_left
  · iexact H
  ipureintro
  intro i hi
  rw [write_eq (m.access r) f G w hw i]
  split
  · rfl
  · rename_i hn; exact hf i (hi.resolve_right hn)

end Held

/-! ## The records -/

section Records
variable (D : Inputs F) (K : Dev nD × Ck → ℕ)

/-- Every cell's invariant, at its name, and that it is at round 0. -/
def records : sProp 𝕄 :=
  iprop((bigSep Finset.univ fun x : Dev nD × Ck => cellInv ER (sched D) (K x) (kcell x)) ∗ bigSep Finset.univ fun x : Dev nD × Ck => reached ER (kcell x) 0)

instance records_persistent : BI.Persistent (records D K) := by unfold records; infer_instance

/-- One invariant out of all; -/
theorem inv_at_aux (x : Dev nD × Ck) : (bigSep Finset.univ fun x : Dev nD × Ck => (cellInv ER (sched D) (K x) (kcell x) : sProp 𝕄)) ⊢ cellInv ER (sched D) (K x) (kcell x) :=
  bigSep_elim (Finset.mem_univ x)
omit [FloatOps F] in
/-- one record of a reached round out of all. -/
theorem reached_at_aux (x : Dev nD × Ck) : (bigSep Finset.univ fun x : Dev nD × Ck => (reached ER (kcell x) 0 : sProp 𝕄)) ⊢ reached ER (kcell x) 0 :=
  bigSep_elim (Finset.mem_univ x)
/-- The records have every cell's invariant, -/
theorem inv_at (x : Dev nD × Ck) : records D K ⊢ cellInv ER (sched D) (K x) (kcell x) := by
  unfold records; iintro ⟨H, -⟩
  iapply (inv_at_aux D K x); iexact H
/-- and that every cell reached its first round. -/
theorem reached_at (x : Dev nD × Ck) : records D K ⊢ reached ER (kcell x) 0 := by
  unfold records; iintro ⟨-, H⟩
  iapply (reached_at_aux x); iexact H
/-- A transfer's cell has the one duty; -/
theorem duties_xfer (c : Dev nD) (x : Bool × Key) : (0 : Fin 5) ∈ (sched D).duties (kcell (c, some x)) 0 := by
  rw [duties_at]; exact Finset.mem_singleton_self _
/-- the barrier has one for every partner. -/
theorem duties_bar (c : Dev nD) (d : Fin 5) : d ∈ (sched D).duties (kcell (c, none)) 0 := by
  rw [duties_at]; exact Finset.mem_univ _

end Records

/-! ## A transfer before its start, in flight, and done -/

section Transfers
variable (D : Inputs F) (K : Dev nD × Ck → ℕ) (c : Dev nD)

/-- The device still owes the dues of a list. -/
def owesL (l : List Due) : sProp 𝕄 := iprop(∃ W, owes (c : Thread nD τ) (owedL c l) W)

/-- A transfer not started: its two tokens and the position at its send cell. -/
def idle (k : Key) : sProp 𝕄 :=
  iprop(dutyTok ER (sendCell c k) 0 0 ∗ dutyTok ER (recvCell (peer (rnd k) c) k) 0 0 ∗ atPos ER (sendCell c k) 0 ∅ 0 ∗ atPos ER (recvCell c k) 0 ∅ 0
    ∗ cred (tallyAt (recvCell c k) () (N k)))
/-- A transfer in flight. -/
def flying (k : Key) : sProp 𝕄 :=
  iprop(cred (tallyAt (sendCell c k) () (N k)) ∗ atPos ER (sendCell c k) 0 ∅ 0 ∗ atPos ER (recvCell c k) 0 ∅ 0 ∗ cred (tallyAt (recvCell c k) () (N k)))
/-- The two cells of a transfer, closed. -/
def shut (k : Key) : sProp 𝕄 := iprop(semVal (sendCell c k) 0 ∗ semVal (recvCell c k) 0)

/-- A send cell hands back the source; -/
theorem pay_send (k : Key) : payOf D c 0 (some (some (false, k))) ⊢ sent D c k := BI.Entails.refl _
/-- a receive cell hands over what landed. -/
theorem pay_recv (k : Key) : payOf D c 0 (some (some (true, k))) ⊢ landed D c k := BI.Entails.refl _

set_option maxHeartbeats 1000000 in
/-- Start a chunk's transfer. -/
theorem wp_startO (r : Fin 5) (s : Fin 4) (l : List Due) (Q : PUnit → sProp 𝕄) :
    iprop(records D K ∗ idle c (.inl (r, s)) ∗ sent D c (.inl (r, s)) ∗ land (peer r c) (.inl (r, s)) ∗ owesL c (.inr (.inl (r, s)) :: l))
      ⊢ iprop(((flying c (.inl (r, s)) ∗ owesL c l) -∗ Q ⟨⟩) -∗ wpB c (startO (peer r c) r s) Q) := by
  unfold idle owesL land sent
  iintro ⟨#HR, ⟨HtS, HtR, HaS, HaR, HcR⟩, Hs, ⟨%fd, Hd⟩, ⟨%W, HO⟩⟩ Hk
  unfold startO Prog.lift
  iapply (Rounds.wp_send_pointsTo 𝒱₀ ER (sched D) (c : Thread nD τ) none (κ₁ := K (c, some (false, .inl (r, s)))) (κ₂ := K (peer r c, some (true, .inl (r, s))))
      (r₁ := 0) (r₂ := 0) (d₁ := 0) (d₂ := 0) (fd := fd)
      (duties_xfer D c (false, .inl (r, s))) (duties_xfer D (peer r c) (true, .inl (r, s)))
      () () (N (.inl (r, s))) rfl (amount_at D (c, some (false, .inl (r, s))) 0) (amount_at D (peer r c, some (true, .inl (r, s))) 0) (owedL c l) rfl (W := W)
      (Entails.of_eq (payload_at D (c, some (false, .inl (r, s))) 0).symm)
      (by
        refine BI.Entails.trans ?_ (Entails.of_eq (payload_at D (peer r c, some (true, .inl (r, s))) 0).symm)
        show _ ⊢ landed D (peer r c) (.inl (r, s))
        unfold landed
        refine Entails.of_eq (pointsTo_congr fun i hi => ?_)
        rw [write_eq (oDst r s).view fd (landO D (peer r c)) _ (fun x => by rw [land_read, peer_peer]) i, if_pos hi])) $$ [Hs Hd HO HtS HtR]
  · isplitr; · iapply (inv_at D K (c, some (false, .inl (r, s)))); iexact HR
    isplitr; · iapply (inv_at D K (peer r c, some (true, .inl (r, s)))); iexact HR
    isplitl [Hs]; · iexact Hs
    isplitl [Hd]; · iexact Hd
    isplitl [HO]; · iexact HO
    isplitl [HtS]; · iexact HtS
    isplitr; · iapply (reached_at D K (c, some (false, .inl (r, s)))); iexact HR
    isplitl [HtR]; · iexact HtR
    iapply (reached_at D K (peer r c, some (true, .inl (r, s)))); iexact HR
  iintro ⟨HcS, HO⟩
  rw [wp_ret]; imodintro
  iapply Hk
  unfold flying
  isplitl [HcS HaS HaR HcR]
  · isplitl [HcS]; · iexact HcS
    isplitl [HaS]; · iexact HaS
    isplitl [HaR]; · iexact HaR
    iexact HcR
  iexists W; iexact HO

set_option maxHeartbeats 1000000 in
/-- Start the transfer of the maxima and sums. -/
theorem wp_startML (r : Fin 5) (l : List Due) (Q : PUnit → sProp 𝕄) :
    iprop(records D K ∗ idle c (.inr r) ∗ sent D c (.inr r) ∗ land (peer r c) (.inr r) ∗ owesL c (.inr (.inr r) :: l))
      ⊢ iprop(((flying c (.inr r) ∗ owesL c l) -∗ Q ⟨⟩) -∗ wpB c (startML (peer r c) r) Q) := by
  unfold idle owesL land sent
  iintro ⟨#HR, ⟨HtS, HtR, HaS, HaR, HcR⟩, Hs, ⟨%fd, Hd⟩, ⟨%W, HO⟩⟩ Hk
  unfold startML Prog.lift
  iapply (Rounds.wp_send_pointsTo 𝒱₀ ER (sched D) (c : Thread nD τ) none (κ₁ := K (c, some (false, .inr r))) (κ₂ := K (peer r c, some (true, .inr r)))
      (r₁ := 0) (r₂ := 0) (d₁ := 0) (d₂ := 0) (fd := fd)
      (duties_xfer D c (false, .inr r)) (duties_xfer D (peer r c) (true, .inr r))
      () () (N (.inr r)) rfl (amount_at D (c, some (false, .inr r)) 0) (amount_at D (peer r c, some (true, .inr r)) 0) (owedL c l) rfl (W := W)
      (Entails.of_eq (payload_at D (c, some (false, .inr r)) 0).symm)
      (by
        refine BI.Entails.trans ?_ (Entails.of_eq (payload_at D (peer r c, some (true, .inr r)) 0).symm)
        show _ ⊢ landed D (peer r c) (.inr r)
        unfold landed
        refine Entails.of_eq (pointsTo_congr fun i hi => ?_)
        rw [write_eq (mlDst r).view fd (landML D (peer r c)) _ (fun x => by rw [land_readML, peer_peer]; rfl) i, if_pos hi])) $$ [Hs Hd HO HtS HtR]
  · isplitr; · iapply (inv_at D K (c, some (false, .inr r))); iexact HR
    isplitr; · iapply (inv_at D K (peer r c, some (true, .inr r))); iexact HR
    isplitl [Hs]; · iexact Hs
    isplitl [Hd]; · iexact Hd
    isplitl [HO]; · iexact HO
    isplitl [HtS]; · iexact HtS
    isplitr; · iapply (reached_at D K (c, some (false, .inr r))); iexact HR
    isplitl [HtR]; · iexact HtR
    iapply (reached_at D K (peer r c, some (true, .inr r))); iexact HR
  iintro ⟨HcS, HO⟩
  rw [wp_ret]; imodintro
  iapply Hk
  unfold flying
  isplitl [HcS HaS HaR HcR]
  · isplitl [HcS]; · iexact HcS
    isplitl [HaS]; · iexact HaS
    isplitl [HaR]; · iexact HaR
    iexact HcR
  iexists W; iexact HO

/-- One wait on a transfer's cell: its payload, and its counter at zero again. -/
theorem wp_waitCell {sp sp' : Space} {s s' : Shape} {e e' : EltTy} (x : Bool × Key) (q : DmaSem sig) (hq : csem (some x) = .dma q)
    {src : Memref sig .tc sp' s' e'} {dst : Memref sig .tc sp s e} {hsrc : src.view.WordExact} {hdst : dst.view.WordExact} (hN : dst.view.dmaCredit = N x.2)
    (l : List Due) (hl : ∀ y ∈ l, lvCk (some (some x)) < lvDue y) {α : Type} (k : PUnit → P F α) (Q : α → sProp 𝕄) :
    iprop(records D K ∗ levAts L lv ∗ cred (tallyAt (kcell (c, some x)) () (N x.2)) ∗ atPos ER (kcell (c, some x)) 0 ∅ 0 ∗ owesL c l)
      ⊢ iprop(((payOf D c 0 (some (some x)) ∗ semVal (kcell (c, some x)) 0 ∗ owesL c l) -∗ wpB c (k ⟨⟩) Q)
        -∗ wpB c (.op (.waitDma2 q src dst hsrc hdst) k) Q) := by
  unfold owesL
  iintro ⟨#HR, #Hlev, Hc, Ha, ⟨%W, HO⟩⟩ Hk
  have hk : kcell (c, some x) = ((c : Thread nD τ), SemLoc.dma q) := congrArg (Prod.mk (c : Thread nD τ)) hq
  iapply (Rounds.wp_wait_rest_token 𝒱₀ ER (sched D) (c : Thread nD τ) none (κ := K (c, some x)) (sm := csem (some x)) (k' := N x.2)
      (fun Kt => by rw [hq, ← hN]; exact wpE_waitDma2_eq 𝒱₀ (c : Thread nD τ) none Set.univ Kt) (Set.mem_univ _) () (O := owedL c l) (W := W) (R := 0) (m := 0) (T := ∅)
      (by rw [Nat.zero_add]; exact (expect_xfer D c x).symm)) $$ [Hc HO Ha]
  · isplitr; · iapply (inv_at D K (c, some x)); iexact HR
    isplitl [Hc]; · iexact Hc
    isplitl [HO]; · iexact HO
    isplitr; · iapply (mayWait c (csem (some x)) l _ (lv_kcell (c, some x)) hl); iexact Hlev
    iexact Ha
  iintro ⟨HO, Ha, -, Hpay⟩
  ihave Hp := (Entails.of_eq (rest_xfer D c x)) $$ Hpay
  imod (Rounds.cell_close ER (sched D) (Set.mem_univ (K (c, some x))) (fun h => h) (R := 0 + 1) (duties_later D (kcell (c, some x)))) $$ [Ha] with Hz
  · isplitr; · iapply (inv_at D K (c, some x)); iexact HR
    iexact Ha
  iapply Hk
  isplitl [Hp]; · iexact Hp
  isplitl [Hz]; · iexact Hz
  iexists _; iexact HO

/-- Both waits of a transfer. -/
theorem wp_finishO (r : Fin 5) (s : Fin 4) (l : List Due) (hl : ∀ y ∈ l, 3 + 2 * r.val < lvDue y) (Q : PUnit → sProp 𝕄) :
    iprop(records D K ∗ levAts L lv ∗ flying c (.inl (r, s)) ∗ owesL c l)
      ⊢ iprop(((sent D c (.inl (r, s)) ∗ landed D c (.inl (r, s)) ∗ shut c (.inl (r, s)) ∗ owesL c l) -∗ Q ⟨⟩) -∗ wpB c (finishO r s) Q) := by
  unfold flying
  iintro ⟨#HR, #Hlev, ⟨HcS, HaS, HaR, HcR⟩, HO⟩ Hk
  unfold finishO
  simp only [Prog.lift, Prog.bind_op, Prog.bind_ret]
  iapply (wp_waitCell D K c (false, .inl (r, s)) (sendO r s) rfl (N_src s r) l (fun y hy => (Nat.zero_le _).trans_lt (hl y hy))) $$ [HcS HaS HO]
  · isplitr; · iexact HR
    isplitr; · iexact Hlev
    isplitl [HcS]; · iexact HcS
    isplitl [HaS]; · iexact HaS
    iexact HO
  iintro ⟨Hs, HzS, HO⟩
  iapply (wp_waitCell D K c (true, .inl (r, s)) (recvO r s) rfl rfl l hl) $$ [HcR HaR HO]
  · isplitr; · iexact HR
    isplitr; · iexact Hlev
    isplitl [HcR]; · iexact HcR
    isplitl [HaR]; · iexact HaR
    iexact HO
  iintro ⟨Hd, HzR, HO⟩
  rw [wpB_ret]; imodintro
  iapply Hk
  isplitl [Hs]; · iapply (pay_send D c); iexact Hs
  isplitl [Hd]; · iapply (pay_recv D c); iexact Hd
  isplitl [HzS HzR]
  · unfold shut; isplitl [HzS]; · iexact HzS
    iexact HzR
  iexact HO

/-- Waiting for the maxima and sums of a round. -/
theorem wp_finishML (r : Fin 5) (l : List Due) (hl : ∀ y ∈ l, 2 + 2 * r.val < lvDue y) (Q : PUnit → sProp 𝕄) :
    iprop(records D K ∗ levAts L lv ∗ flying c (.inr r) ∗ owesL c l)
      ⊢ iprop(((sent D c (.inr r) ∗ landed D c (.inr r) ∗ shut c (.inr r) ∗ owesL c l) -∗ Q ⟨⟩) -∗ wpB c (finishML r) Q) := by
  unfold flying
  iintro ⟨#HR, #Hlev, ⟨HcS, HaS, HaR, HcR⟩, HO⟩ Hk
  unfold finishML
  simp only [Prog.lift, Prog.bind_op, Prog.bind_ret]
  iapply (wp_waitCell D K c (false, .inr r) (sendML r) rfl (N_srcML r) l (fun y hy => (Nat.zero_le _).trans_lt (hl y hy))) $$ [HcS HaS HO]
  · isplitr; · iexact HR
    isplitr; · iexact Hlev
    isplitl [HcS]; · iexact HcS
    isplitl [HaS]; · iexact HaS
    iexact HO
  iintro ⟨Hs, HzS, HO⟩
  iapply (wp_waitCell D K c (true, .inr r) (recvML r) rfl rfl l hl) $$ [HcR HaR HO]
  · isplitr; · iexact HR
    isplitr; · iexact Hlev
    isplitl [HcR]; · iexact HcR
    isplitl [HaR]; · iexact HaR
    iexact HO
  iintro ⟨Hd, HzR, HO⟩
  rw [wpB_ret]; imodintro
  iapply Hk
  isplitl [Hs]; · iapply (pay_send D c); iexact Hs
  isplitl [Hd]; · iapply (pay_recv D c); iexact Hd
  isplitl [HzS HzR]
  · unfold shut; isplitl [HzS]; · iexact HzS
    iexact HzR
  iexact HO

end Transfers

end Cert.KernelIdealProof
-- ==== Proof.Rounds.lean ====
/-
# The local partials, a round, the last round
-/
module

public import proofs.«01_k».proof.Proof.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A whole buffer of device `c` at given contents. -/
abbrev full {s : Shape} {e : EltTy} (m : Memref sig .tc .vmem s e) (c : Dev nD) (f : Buf (Elt F) (m.view.loc (c : Thread nD τ))) : sProp 𝕄 :=
  m.view.loc (c : Thread nD τ) ↦[Finset.univ]{fullShare} f

/-! ## The element sets -/

/-- The elements that an access of a whole buffer touches; -/
theorem acc_set {s : Shape} {e : EltTy} (b : Ref sig .tc) (r : Rect b.ty.shape) : ((Memref.whole b).access r).set = r.set := View.set_slice_whole _ _

/-- those that a mask selects; -/
theorem set_on_whole (b : Ref sig .tc) (M : Finset b.ty.shape.Idx) : (Memref.whole b).view.setOn M = M := by
  refine Finset.ext fun i => ⟨fun h => ?_, fun h => Finset.mem_map.mpr ⟨i, h, rfl⟩⟩
  obtain ⟨j, hj, rfl⟩ := Finset.mem_map.mp h
  exact hj

/-- those that a chunk's transfer reads; -/
theorem set_oSrc (s : Fin 4) : (oSrc s).view.set = (rAccO s).set := View.set_slice_whole _ _
/-- those of a chunk. -/
theorem set_accO (s : Fin 4) : (accO.access (rAccO s)).set = (rAccO s).set := View.set_slice_whole _ _

/-- The half of the partial outputs of batch element `b`: its two chunks. -/
def half (b : Fin 2) : Finset S16x128x64.Idx := (rAccO (s0Of b)).set ∪ (rAccO (s1Of b)).set

/-- An element of a half, by its row. -/
theorem mem_half (b : Fin 2) (i : S16x128x64.Idx) : i ∈ half b ↔ (i 0).val / 8 = b.val := by
  unfold half
  rw [Finset.mem_union, mem_rAccO, mem_rAccO]
  simp only [s0Of, s1Of]
  omega

section Local
variable (D : Inputs F) (c : Dev nD)

set_option maxHeartbeats 1000000 in
/-- One head: its partial output, maxima and sums stored. -/
theorem wp_head (b : Fin 2) (h : Fin 8) (A : S16x128x64.Idx → Prop) (B : S2x16x128.Idx → Prop) (Q : PUnit → sProp 𝕄) :
    iprop(full kM c (D.k c) ∗ full vM c (D.v c) ∗ held accO c (half b) A (localO D c) ∗ held accML c Finset.univ B (localML D c))
      ⊢ iprop(((full kM c (D.k c) ∗ full vM c (D.v c) ∗ held accO c (half b) (fun i => A i ∨ (i 0).val = 8 * b.val + h.val) (localO D c)
          ∗ held accML c Finset.univ (fun i => B i ∨ (i 1).val = 8 * b.val + h.val) (localML D c)) -∗ Q ⟨⟩)
        -∗ wpB c (head b h (qAt D c b)) Q) := by
  iintro ⟨Hkk, Hv, Ho, Hml⟩ Hk
  unfold head
  simp only [Prog.lift, Prog.bind_op, Prog.bind_ret]
  have hsub : (accO.access (rAccO1 b h)).set ⊆ half b := by
    intro i hi
    rw [View.set_slice_whole] at hi
    rw [mem_half]; have := (mem_rAccO1 b h i).mp hi; omega
  iapply (wp_load 𝒱₀ (c : Thread nD τ) none Set.univ (m := kM) (Finset.subset_univ _)) $$ Hkk; iintro Hkk
  iapply (wp_load 𝒱₀ (c : Thread nD τ) none Set.univ (m := vM) (Finset.subset_univ _)) $$ Hv; iintro Hv
  rw [show (kM : Memref sig .tc .vmem S2x128x8x64 .f32).view.readAt (Elt F) (rKV b h).toLoadRect (D.k c) = kAt D c b h from rfl,
    show (vM : Memref sig .tc .vmem S2x128x8x64 .f32).view.readAt (Elt F) (rKV b h).toLoadRect (D.v c) = vAt D c b h from rfl]
  iapply (wp_load_held (m := accO) (c := c) _ (fun _ => rfl) (by
    rw [set_on_whole]; rw [View.set_slice_whole] at hsub; exact hsub)) $$ Ho; iintro Ho
  iapply (wp_store_held (m := accO) (c := c) (G := localO D c) hsub (store_headO D c b h)) $$ Ho; iintro Ho
  iapply (wp_load_held (m := accML) (c := c) (S := Finset.univ) (A := B) (G := localML D c) _ (fun _ => rfl) (fun i _ => Finset.mem_univ i)) $$ Hml; iintro Hml
  iapply (wp_store_held (m := accML) (c := c) (S := Finset.univ) (A := B) (G := localML D c) (r := rML1 0 b h) (fun i _ => Finset.mem_univ i) (store_headM D c b h)) $$ Hml; iintro Hml
  iapply (wp_load_held (m := accML) (c := c) (S := Finset.univ) (A := fun i => B i ∨ i ∈ ((accML : Memref sig .tc .vmem S2x16x128 .f32).access (rML1 0 b h)).set) (G := localML D c) _ (fun _ => rfl) (fun i _ => Finset.mem_univ i)) $$ Hml; iintro Hml
  iapply (wp_store_held (m := accML) (c := c) (S := Finset.univ) (A := fun i => B i ∨ i ∈ ((accML : Memref sig .tc .vmem S2x16x128 .f32).access (rML1 0 b h)).set) (G := localML D c) (r := rML1 1 b h) (fun i _ => Finset.mem_univ i) (store_headL D c b h)) $$ Hml; iintro Hml
  rw [wpB_ret]; imodintro
  iapply Hk
  isplitl [Hkk]; · iexact Hkk
  isplitl [Hv]; · iexact Hv
  isplitl [Ho]
  · iapply (held_weaken (m := accO) (c := c) (A := fun i => A i ∨ i ∈ ((accO : Memref sig .tc .vmem S16x128x64 .bf16).access (rAccO1 b h)).set)
      (fun i hi => hi.imp_right fun e => by rw [View.set_slice_whole]; exact (mem_rAccO1 b h i).mpr e)); iexact Ho
  iapply (held_weaken (m := accML) (c := c) (A := fun i => (B i ∨ i ∈ ((accML : Memref sig .tc .vmem S2x16x128 .f32).access (rML1 0 b h)).set)
      ∨ i ∈ ((accML : Memref sig .tc .vmem S2x16x128 .f32).access (rML1 1 b h)).set) (fun i hi => by
    have h0 : ((i : S2x16x128.Idx) 0).val < 2 := ((i : S2x16x128.Idx) 0).isLt
    rw [View.set_slice_whole, View.set_slice_whole]
    refine hi.elim (fun h => .inl (.inl h)) fun e => ?_
    by_cases h1 : ((i : S2x16x128.Idx) 0).val = 0
    · exact .inl (.inr ((mem_rML1 0 b h i).mpr ⟨h1, e⟩))
    · exact .inr ((mem_rML1 1 b h i).mpr ⟨by show _ = 1; omega, e⟩))); iexact Hml

/-- An element covered by a list of heads is covered by the first or by the rest. -/
theorem cover_cons {A : Prop} {P : Fin 8 → Prop} {h : Fin 8} {hs : List (Fin 8)} (hi : A ∨ ∃ h' ∈ h :: hs, P h') : (A ∨ P h) ∨ ∃ h' ∈ hs, P h' := by
  rcases hi with h | ⟨h', hh, e⟩
  · exact .inl (.inl h)
  · rcases List.mem_cons.mp hh with rfl | hh
    · exact .inl (.inr e)
    · exact .inr ⟨h', hh, e⟩

/-- The heads of a list. -/
theorem wp_heads (b : Fin 2) (Q : PUnit → sProp 𝕄) : ∀ (hs : List (Fin 8)) (A : S16x128x64.Idx → Prop) (B : S2x16x128.Idx → Prop),
    iprop(full kM c (D.k c) ∗ full vM c (D.v c) ∗ held accO c (half b) A (localO D c) ∗ held accML c Finset.univ B (localML D c))
      ⊢ iprop(((full kM c (D.k c) ∗ full vM c (D.v c) ∗ held accO c (half b) (fun i => A i ∨ ∃ h ∈ hs, (i 0).val = 8 * b.val + h.val) (localO D c)
          ∗ held accML c Finset.univ (fun i => B i ∨ ∃ h ∈ hs, (i 1).val = 8 * b.val + h.val) (localML D c)) -∗ Q ⟨⟩)
        -∗ wpB c (heads b (qAt D c b) hs) Q)
  | [], A, B => by
    iintro ⟨Hkk, Hv, Ho, Hml⟩ Hk
    unfold heads
    rw [wpB_pure]; imodintro
    iapply Hk
    isplitl [Hkk]; · iexact Hkk
    isplitl [Hv]; · iexact Hv
    isplitl [Ho]
    · iapply (held_weaken (fun i hi => hi.elim (fun h => h) fun ⟨h, hh, _⟩ => absurd hh (List.not_mem_nil))); iexact Ho
    iapply (held_weaken (fun i hi => hi.elim (fun h => h) fun ⟨h, hh, _⟩ => absurd hh (List.not_mem_nil))); iexact Hml
  | h :: hs, A, B => by
    iintro H Hk
    unfold heads
    rw [wpB_bind]
    iapply (wp_head D c b h A B) $$ H; iintro H
    iapply (wp_heads b Q hs _ _) $$ H; iintro ⟨Hkk, Hv, Ho, Hml⟩
    iapply Hk
    isplitl [Hkk]; · iexact Hkk
    isplitl [Hv]; · iexact Hv
    isplitl [Ho]
    · iapply (held_weaken (fun i hi => cover_cons hi)); iexact Ho
    iapply (held_weaken (fun i hi => cover_cons hi)); iexact Hml

/-- Every head is one of the eight. -/
theorem mem_eight (h : Fin 8) : h ∈ (eight : List (Fin 8)) := by revert h; decide

end Local

section Round
variable (D : Inputs F) (K : Dev nD × Ck → ℕ) (c : Dev nD)

omit [FloatOps F] in
/-- Equal sets of elements, the same ownership. -/
theorem pts_set {ℓ : Loc nD τ sig} {S T : Finset (Idx ℓ)} (h : S = T) (f : Buf (Elt F) ℓ) : (ℓ ↦[S]{fullShare} f : sProp 𝕄) = (ℓ ↦[T]{fullShare} f) := by
  rw [h]
/-- The elements that a chunk's transfer writes; -/
theorem set_oDst (r : Fin 5) (s : Fin 4) : (oDst r s).view.set = (rRcvO r s).set := (View.set_reshape _ _).trans (View.set_slice_whole _ _)
/-- those that the transfer of the maxima and sums writes. -/
theorem set_mlDst (r : Fin 5) : (mlDst r).view.set = (rRcvML r).set := (View.set_reshape _ _).trans (View.set_slice_whole _ _)

/-- A chunk that was sent, as a region of the partial outputs; -/
theorem sent_o (r : Fin 5) (s : Fin 4) : sent D c (.inl (r, s))
    = ((accO : Memref sig .tc .vmem S16x128x64 .bf16).view.loc (c : Thread nD τ) ↦[(rAccO s).set]{fullShare} (st D r.val c).o) := pts_set (set_oSrc s) _
/-- the maxima and sums that were sent. -/
theorem sent_ml (r : Fin 5) : sent D c (.inr r) = full accML c (st D r.val c).ml := pts_set (View.set_whole _) _
/-- A chunk that landed, as a region of the landing buffer; -/
theorem landed_o (r : Fin 5) (s : Fin 4) : landed D c (.inl (r, s))
    = ((rcvO : Memref sig .tc .vmem S5x16x128x64 .bf16).view.loc (c : Thread nD τ) ↦[(rRcvO r s).set]{fullShare} (landO D c)) := pts_set (set_oDst r s) _
/-- the maxima and sums that landed. -/
theorem landed_ml (r : Fin 5) : landed D c (.inr r)
    = ((rcvML : Memref sig .tc .vmem S5x2x16x128 .f32).view.loc (c : Thread nD τ) ↦[(rRcvML r).set]{fullShare} (landML D c)) := pts_set (set_mlDst r) _

/-- The merged chunk, stored, is what the next round sends. -/
theorem merged_sent (r r' : Fin 5) (hr : r'.val = r.val + 1) (s : Fin 4) (f : Buf (Elt F) ((accO : Memref sig .tc .vmem S16x128x64 .bf16).view.loc (c : Thread nD τ))) :
    ((accO : Memref sig .tc .vmem S16x128x64 .bf16).view.loc (c : Thread nD τ) ↦[(rAccO s).set]{fullShare}
      (((accO : Memref sig .tc .vmem S16x128x64 .bf16).access (rAccO s)).write (Elt F) f (mergedT s (stA (st D r.val c) (st D r.val (peer r c))) (stB (st D r.val c) (st D r.val (peer r c)))
        (chunkA (st D r.val c) s) (chunkB (st D r.val (peer r c)) s)) Finset.univ) : sProp 𝕄) ⊢ sent D c (.inl (r', s)) := by
  rw [sent_o]
  refine Entails.of_eq (pointsTo_congr fun i hi => ?_)
  exact (write_eq ((accO : Memref sig .tc .vmem S16x128x64 .bf16).access (rAccO s)) f (st D r'.val c).o _
    (fun x => by rw [hr, st_succ]; exact store_chunk _ _ s x) i).trans (if_pos (by rw [set_accO]; exact hi))

/-- Merge the maxima and sums of round `r`. -/
theorem wp_mergeML (r : Fin 5) (l : List Due) (hl : ∀ y ∈ l, 2 + 2 * r.val < lvDue y)
    (Q : FVec F S16x128 .f32 × FVec F S16x128 .f32 × FVec F S16x128 .f32 → sProp 𝕄) :
    iprop(records D K ∗ levAts L lv ∗ flying c (.inr r) ∗ owesL c l)
      ⊢ iprop(((full accML c (st D (r.val + 1) c).ml ∗ landed D c (.inr r) ∗ shut c (.inr r) ∗ owesL c l)
          -∗ Q (stA (st D r.val c) (st D r.val (peer r c)), stB (st D r.val c) (st D r.val (peer r c)), stL (st D r.val c) (st D r.val (peer r c))))
        -∗ wpB c (mergeML r) Q) := by
  unfold mergeML
  simp only [Prog.lift, Prog.bind_op, Prog.bind_ret]
  iintro H Hk
  rw [wpB_bind]
  iapply (wp_finishML D K c r l hl) $$ H; iintro ⟨Hml, Hd, Hz, HO⟩
  ihave Hml := (Entails.of_eq (sent_ml D c r)) $$ Hml
  ihave Hd := (Entails.of_eq (landed_ml D c r)) $$ Hd
  have hs : ∀ p : Fin 2, (rcvML : Memref sig .tc .vmem S5x2x16x128 .f32).view.setOn (rRcvMLp r p).toLoadRect.set ⊆ (rRcvML r).set := by
    intro p i hi
    rw [set_on_whole] at hi
    exact (mem_rRcvML r i).mpr ((mem_rRcvMLp r p i).mp hi).1
  iapply (wp_load 𝒱₀ (c : Thread nD τ) none Set.univ (m := accML) (fun i _ => Finset.mem_univ i)) $$ Hml; iintro Hml
  iapply (wp_load 𝒱₀ (c : Thread nD τ) none Set.univ (m := accML) (fun i _ => Finset.mem_univ i)) $$ Hml; iintro Hml
  iapply (wp_load 𝒱₀ (c : Thread nD τ) none Set.univ (m := rcvML) (hs 0)) $$ Hd; iintro Hd
  iapply (wp_load 𝒱₀ (c : Thread nD τ) none Set.univ (m := rcvML) (hs 1)) $$ Hd; iintro Hd
  rw [load_landML, load_landML,
    show (accML : Memref sig .tc .vmem S2x16x128 .f32).view.readAt (Elt F) (rMLp 0).toLoadRect (st D r.val c).ml = planeA (st D r.val c) 0 from rfl,
    show (accML : Memref sig .tc .vmem S2x16x128 .f32).view.readAt (Elt F) (rMLp 1).toLoadRect (st D r.val c).ml = planeA (st D r.val c) 1 from rfl]
  ihave Hml := (held_of (m := accML) (c := c) (S := Finset.univ) (G := (st D (r.val + 1) c).ml) (st D r.val c).ml) $$ Hml
  iapply (wp_load_held (m := accML) (c := c) (S := Finset.univ) (A := fun _ => False) (G := (st D (r.val + 1) c).ml) _ (fun _ => rfl) (fun i _ => Finset.mem_univ i)) $$ Hml; iintro Hml
  iapply (wp_store_held (m := accML) (c := c) (S := Finset.univ) (A := fun _ => False) (G := (st D (r.val + 1) c).ml) (r := rMLp 0) (fun i _ => Finset.mem_univ i)
    (by rw [st_succ]; exact store_step0 (st D r.val c) (st D r.val (peer r c)))) $$ Hml; iintro Hml
  iapply (wp_load_held (m := accML) (c := c) (S := Finset.univ) (A := fun i => False ∨ i ∈ ((accML : Memref sig .tc .vmem S2x16x128 .f32).access (rMLp 0)).set) (G := (st D (r.val + 1) c).ml)
    _ (fun _ => rfl) (fun i _ => Finset.mem_univ i)) $$ Hml; iintro Hml
  iapply (wp_store_held (m := accML) (c := c) (S := Finset.univ) (A := fun i => False ∨ i ∈ ((accML : Memref sig .tc .vmem S2x16x128 .f32).access (rMLp 0)).set) (G := (st D (r.val + 1) c).ml)
    (r := rMLp 1) (fun i _ => Finset.mem_univ i) (by rw [st_succ]; exact store_step1 (st D r.val c) (st D r.val (peer r c)))) $$ Hml; iintro Hml
  rw [wpB_pure, show facA (planeA (st D r.val c) 0) (planeB (st D r.val (peer r c)) 0) = stA (st D r.val c) (st D r.val (peer r c)) from rfl,
    show facB (planeA (st D r.val c) 0) (planeB (st D r.val (peer r c)) 0) = stB (st D r.val c) (st D r.val (peer r c)) from rfl,
    show newL (planeA (st D r.val c) 0) (planeA (st D r.val c) 1) (planeB (st D r.val (peer r c)) 0) (planeB (st D r.val (peer r c)) 1)
      = stL (st D r.val c) (st D r.val (peer r c)) from rfl]
  imodintro
  iapply Hk
  isplitl [Hml]
  · iapply (held_all (m := accML) (c := c) (S := Finset.univ) (A := fun i => (False ∨ i ∈ ((accML : Memref sig .tc .vmem S2x16x128 .f32).access (rMLp 0)).set)
      ∨ i ∈ ((accML : Memref sig .tc .vmem S2x16x128 .f32).access (rMLp 1)).set) (G := (st D (r.val + 1) c).ml) (fun i _ => by
        have h0 : ((i : S2x16x128.Idx) 0).val < 2 := ((i : S2x16x128.Idx) 0).isLt
        rw [View.set_slice_whole, View.set_slice_whole]
        by_cases h1 : ((i : S2x16x128.Idx) 0).val = 0
        · exact .inl (.inr ((mem_rMLp 0 i).mpr h1))
        · exact .inr ((mem_rMLp 1 i).mpr (by show _ = 1; omega)))); iexact Hml
  isplitl [Hd]; · iapply (Entails.of_eq (landed_ml D c r).symm); iexact Hd
  isplitl [Hz]; · iexact Hz
  iexact HO

/-- Wait for chunk `s` of round `r` and load both sides. -/
theorem wp_loadChunk (r : Fin 5) (s : Fin 4) (l : List Due) (hl : ∀ y ∈ l, 3 + 2 * r.val < lvDue y)
    (Q : Vec F S4x128x64 .bf16 × Vec F S1x4x128x64 .bf16 → sProp 𝕄) :
    iprop(records D K ∗ levAts L lv ∗ flying c (.inl (r, s)) ∗ owesL c l)
      ⊢ iprop(((sent D c (.inl (r, s)) ∗ landed D c (.inl (r, s)) ∗ shut c (.inl (r, s)) ∗ owesL c l)
          -∗ Q (chunkA (st D r.val c) s, chunkB (st D r.val (peer r c)) s))
        -∗ wpB c (loadChunk r s) Q) := by
  unfold loadChunk
  simp only [Prog.lift, Prog.bind_op, Prog.bind_ret]
  iintro H Hk
  rw [wpB_bind]
  iapply (wp_finishO D K c r s l hl) $$ H; iintro ⟨Ho, Hd, Hz, HO⟩
  ihave Ho := (Entails.of_eq (sent_o D c r s)) $$ Ho
  ihave Hd := (Entails.of_eq (landed_o D c r s)) $$ Hd
  iapply (wp_load 𝒱₀ (c : Thread nD τ) none Set.univ (m := accO) (by rw [set_on_whole])) $$ Ho; iintro Ho
  iapply (wp_load 𝒱₀ (c : Thread nD τ) none Set.univ (m := rcvO) (by rw [set_on_whole])) $$ Hd; iintro Hd
  rw [load_landO, show (accO : Memref sig .tc .vmem S16x128x64 .bf16).view.readAt (Elt F) (rAccO s).toLoadRect (st D r.val c).o = chunkA (st D r.val c) s from rfl]
  rw [wp_pure]; imodintro
  iapply Hk
  isplitl [Ho]; · iapply (Entails.of_eq (sent_o D c r s).symm); iexact Ho
  isplitl [Hd]; · iapply (Entails.of_eq (landed_o D c r s).symm); iexact Hd
  isplitl [Hz]; · iexact Hz
  iexact HO

/-- A chunk of a round that is not the last: merged in place, its next transfer started. -/
theorem wp_chunk (r r' : Fin 5) (hr : r'.val = r.val + 1) (s : Fin 4) (l : List Due) (hl : ∀ y ∈ l, 3 + 2 * r.val < lvDue y) (Q : PUnit → sProp 𝕄) :
    iprop(records D K ∗ levAts L lv ∗ flying c (.inl (r, s)) ∗ idle c (.inl (r', s)) ∗ land (peer r' c) (.inl (r', s)) ∗ owesL c (.inr (.inl (r', s)) :: l))
      ⊢ iprop(((flying c (.inl (r', s)) ∗ landed D c (.inl (r, s)) ∗ shut c (.inl (r, s)) ∗ owesL c l) -∗ Q ⟨⟩)
        -∗ wpB c (chunk r r' (stA (st D r.val c) (st D r.val (peer r c))) (stB (st D r.val c) (st D r.val (peer r c))) (peer r' c) s) Q) := by
  unfold chunk
  simp only [Prog.lift, Prog.bind_op, Prog.bind_ret]
  iintro ⟨#HR, #Hlev, Hf, Hi, Hn, HO⟩ Hk
  rw [wpB_bind]
  iapply (wp_loadChunk D K c r s (.inr (.inl (r', s)) :: l) (fun y hy => (List.mem_cons.mp hy).elim (fun e => by
      subst e; show 3 + 2 * r.val < 3 + 2 * r'.val; omega) (hl y))) $$ [Hf HO]
  · isplitr; · iexact HR
    isplitr; · iexact Hlev
    isplitl [Hf]; · iexact Hf
    iexact HO
  iintro ⟨Ho, Hd, Hz, HO⟩
  ihave Ho := (Entails.of_eq (sent_o D c r s)) $$ Ho
  iapply (wp_load 𝒱₀ (c : Thread nD τ) none Set.univ (m := accO) (by rw [set_on_whole])) $$ Ho; iintro Ho
  iapply (wp_store 𝒱₀ (c : Thread nD τ) none Set.univ (m := accO) (r := rAccO s) (Mk := Finset.univ) (by rw [View.setOn_univ, set_accO])) $$ Ho; iintro Ho
  iapply (wp_startO D K c r' s l) $$ [Hi Ho Hn HO]
  · isplitr; · iexact HR
    isplitl [Hi]; · iexact Hi
    isplitl [Ho]
    · iapply (merged_sent D c r r' hr s _); iexact Ho
    isplitl [Hn]; · iexact Hn
    iexact HO
  iintro ⟨Hf, HO⟩
  iapply Hk
  isplitl [Hf]; · iexact Hf
  isplitl [Hd]; · iexact Hd
  isplitl [Hz]; · iexact Hz
  iexact HO

/-- What a device holds of a round's five transfers. -/
def all5 (Φ : Key → sProp 𝕄) (r : Fin 5) : sProp 𝕄 :=
  iprop(Φ (.inl (r, 0)) ∗ Φ (.inl (r, 1)) ∗ Φ (.inl (r, 2)) ∗ Φ (.inl (r, 3)) ∗ Φ (.inr r))

/-- A round that is not the last. -/
theorem wp_round (r r' : Fin 5) (hr : r'.val = r.val + 1) (l : List Due) (hl : ∀ y ∈ l, 3 + 2 * r.val < lvDue y) (Q : PUnit → sProp 𝕄) :
    iprop(records D K ∗ levAts L lv ∗ all5 (flying c) r ∗ all5 (idle c) r' ∗ landRound (peer r' c) r' ∗ owesL c (roundDues r' ++ l))
      ⊢ iprop(((all5 (flying c) r' ∗ all5 (landed D c) r ∗ all5 (shut c) r ∗ owesL c l) -∗ Q ⟨⟩)
        -∗ wpB c (round r r' (peer r' c)) Q) := by
  have hd : ∀ s : Fin 4, 3 + 2 * r.val < lvDue (.inr (.inl (r', s))) := fun s => by show 3 + 2 * r.val < 3 + 2 * r'.val; omega
  have hm : 3 + 2 * r.val < lvDue (.inr (.inr r')) := by show 3 + 2 * r.val < 2 + 2 * r'.val; omega
  unfold all5 landRound
  iintro ⟨#HR, #Hlev, ⟨F0, F1, F2, F3, FM⟩, ⟨I0, I1, I2, I3, IM⟩, ⟨N0, N1, N2, N3, NM⟩, HO⟩ Hk
  unfold round
  rw [wpB_bind]
  iapply (wp_mergeML D K c r (roundDues r' ++ l) (fun y hy => by
      have : 3 + 2 * r.val < lvDue y := (List.mem_append.mp hy).elim (fun hy => by
        simp only [List.mem_cons, List.not_mem_nil, _root_.or_false] at hy
        rcases hy with rfl | rfl | rfl | rfl | rfl
        exacts [hm, hd 0, hd 1, hd 2, hd 3]) (hl y)
      omega)) $$ [FM HO]
  · isplitr; · iexact HR
    isplitr; · iexact Hlev
    isplitl [FM]; · iexact FM
    iexact HO
  iintro ⟨Hml, LM, ZM, HO⟩
  rw [wpB_bind]
  iapply (wp_startML D K c r' ([.inr (.inl (r', 0)), .inr (.inl (r', 1)), .inr (.inl (r', 2)), .inr (.inl (r', 3))] ++ l)) $$ [Hml IM NM HO]
  · isplitr; · iexact HR
    isplitl [IM]; · iexact IM
    isplitl [Hml]
    · iapply (Entails.of_eq ((sent_ml D c r').trans (by rw [hr])).symm); iexact Hml
    isplitl [NM]; · iexact NM
    iexact HO
  iintro ⟨FM, HO⟩
  rw [wpB_bind]
  iapply (wp_chunk D K c r r' hr 0 ([.inr (.inl (r', 1)), .inr (.inl (r', 2)), .inr (.inl (r', 3))] ++ l) (fun y hy => (List.mem_append.mp hy).elim (fun hy => by
        simp only [List.mem_cons, List.not_mem_nil, _root_.or_false] at hy
        rcases hy with rfl | rfl | rfl
        exacts [hd 1, hd 2, hd 3]) (hl y))) $$ [F0 I0 N0 HO]
  · isplitr; · iexact HR
    isplitr; · iexact Hlev
    isplitl [F0]; · iexact F0
    isplitl [I0]; · iexact I0
    isplitl [N0]; · iexact N0
    iexact HO
  iintro ⟨F0, L0, Z0, HO⟩
  rw [wpB_bind]
  iapply (wp_chunk D K c r r' hr 1 ([.inr (.inl (r', 2)), .inr (.inl (r', 3))] ++ l) (fun y hy => (List.mem_append.mp hy).elim (fun hy => by
        simp only [List.mem_cons, List.not_mem_nil, _root_.or_false] at hy
        rcases hy with rfl | rfl
        exacts [hd 2, hd 3]) (hl y))) $$ [F1 I1 N1 HO]
  · isplitr; · iexact HR
    isplitr; · iexact Hlev
    isplitl [F1]; · iexact F1
    isplitl [I1]; · iexact I1
    isplitl [N1]; · iexact N1
    iexact HO
  iintro ⟨F1, L1, Z1, HO⟩
  rw [wpB_bind]
  iapply (wp_chunk D K c r r' hr 2 ([.inr (.inl (r', 3))] ++ l) (fun y hy => (List.mem_append.mp hy).elim (fun hy => by
        simp only [List.mem_cons, List.not_mem_nil, _root_.or_false] at hy
        subst hy
        exact hd 3) (hl y))) $$ [F2 I2 N2 HO]
  · isplitr; · iexact HR
    isplitr; · iexact Hlev
    isplitl [F2]; · iexact F2
    isplitl [I2]; · iexact I2
    isplitl [N2]; · iexact N2
    iexact HO
  iintro ⟨F2, L2, Z2, HO⟩
  iapply (wp_chunk D K c r r' hr 3 l hl) $$ [F3 I3 N3 HO]
  · isplitr; · iexact HR
    isplitr; · iexact Hlev
    isplitl [F3]; · iexact F3
    isplitl [I3]; · iexact I3
    isplitl [N3]; · iexact N3
    iexact HO
  iintro ⟨F3, L3, Z3, HO⟩
  iapply Hk
  isplitl [F0 F1 F2 F3 FM]
  · isplitl [F0]; · iexact F0
    isplitl [F1]; · iexact F1
    isplitl [F2]; · iexact F2
    isplitl [F3]; · iexact F3
    iexact FM
  isplitl [L0 L1 L2 L3 LM]
  · isplitl [L0]; · iexact L0
    isplitl [L1]; · iexact L1
    isplitl [L2]; · iexact L2
    isplitl [L3]; · iexact L3
    iexact LM
  isplitl [Z0 Z1 Z2 Z3 ZM]
  · isplitl [Z0]; · iexact Z0
    isplitl [Z1]; · iexact Z1
    isplitl [Z2]; · iexact Z2
    isplitl [Z3]; · iexact Z3
    iexact ZM
  iexact HO

/-- The heads of a list, normalised, written into the attention rows of batch element `b`. -/
theorem wp_attHeads (b : Fin 2) (Q : PUnit → sProp 𝕄) : ∀ (hs : List (Fin 8)) (A : S256x512.Idx → Prop),
    held attM c (rAtt b).set A (attAt D c)
      ⊢ iprop((held attM c (rAtt b).set (fun i => A i ∨ ∃ h ∈ hs, (i 1).val / 64 = h.val) (attAt D c) -∗ Q ⟨⟩)
        -∗ wpB c (attHeads b (normAt D c b (s0Of b) (s1Of b)) hs) Q)
  | [], A => by
    iintro Ho Hk
    unfold attHeads
    rw [wpB_pure]; imodintro
    iapply Hk
    iapply (held_weaken (fun i hi => hi.elim (fun h => h) fun ⟨h, hh, _⟩ => absurd hh (List.not_mem_nil))); iexact Ho
  | h :: hs, A => by
    unfold attHeads
    simp only [Prog.lift, Prog.bind_op, Prog.bind_ret]
    iintro Ho Hk
    have hsub : ((attM : Memref sig .tc .vmem S256x512 .f32).access (rAtt1 b h)).set ⊆ (rAtt b).set := by
      intro i hi
      rw [View.set_slice_whole] at hi
      exact (mem_rAtt b i).mpr ((mem_rAtt1 b h i).mp hi).1
    iapply (wp_load_held (m := attM) (c := c) (S := (rAtt b).set) (A := A) (G := attAt D c) _ (fun _ => rfl) (by
      rw [set_on_whole]; rw [View.set_slice_whole] at hsub; exact hsub)) $$ Ho; iintro Ho
    iapply (wp_store_held (m := attM) (c := c) (S := (rAtt b).set) (A := A) (G := attAt D c) (r := rAtt1 b h) hsub (store_att D c b h)) $$ Ho; iintro Ho
    iapply (wp_attHeads b Q hs (fun i => A i ∨ ((i : S256x512.Idx) 0).val / 128 = b.val ∧ ((i : S256x512.Idx) 1).val / 64 = h.val)) $$ [Ho]
    · iapply (held_weaken (m := attM) (c := c) (A := fun i => A i ∨ i ∈ ((attM : Memref sig .tc .vmem S256x512 .f32).access (rAtt1 b h)).set)
        (fun i hi => hi.imp_right fun e => by rw [View.set_slice_whole]; exact (mem_rAtt1 b h i).mpr e)); iexact Ho
    iintro Ho
    iapply Hk
    unfold held
    icases Ho with ⟨%f, %hf, Ho⟩
    iexists (fun i => if ((i : S256x512.Idx) 0).val / 128 = b.val then f i else attAt D c i)
    isplitr
    · ipureintro
      intro i hi
      by_cases hb : ((i : S256x512.Idx) 0).val / 128 = b.val
      · exact (if_pos hb).trans (hf i ((cover_cons hi).imp_left fun h => h.imp_right fun e => ⟨hb, e⟩))
      · exact if_neg hb
    iapply (Entails.of_eq (pointsTo_congr fun i hi => (if_pos ((mem_rAtt b i).mp hi)).symm)); iexact Ho

set_option maxHeartbeats 1000000 in
/-- The last round of batch element `b`. -/
theorem wp_lastRound (b : Fin 2) (A : S2x128x512.Idx → Prop) (Q : PUnit → sProp 𝕄) :
    iprop(records D K ∗ levAts L lv ∗ flying c (.inl (4, s0Of b)) ∗ flying c (.inl (4, s1Of b)) ∗ owesL c []
        ∗ held attM c (rAtt b).set (fun _ => False) (attAt D c) ∗ full woM c (D.wo c) ∗ held outM c Finset.univ A (outAt D c))
      ⊢ iprop(((sent D c (.inl (4, s0Of b)) ∗ landed D c (.inl (4, s0Of b)) ∗ shut c (.inl (4, s0Of b))
          ∗ sent D c (.inl (4, s1Of b)) ∗ landed D c (.inl (4, s1Of b)) ∗ shut c (.inl (4, s1Of b)) ∗ owesL c []
          ∗ (attM.view.loc (c : Thread nD τ) ↦[(rAtt b).set]{fullShare} (attAt D c)) ∗ full woM c (D.wo c)
          ∗ held outM c Finset.univ (fun i => A i ∨ (i 0).val = b.val) (outAt D c)) -∗ Q ⟨⟩)
        -∗ wpB c (lastRound b (s0Of b) (s1Of b) (stA (st D 4 c) (st D 4 (peer 4 c))) (stB (st D 4 c) (st D 4 (peer 4 c))) (stL (st D 4 c) (st D 4 (peer 4 c)))) Q) := by
  unfold lastRound
  simp only [Prog.lift, Prog.bind_op, Prog.bind_ret]
  iintro ⟨#HR, #Hlev, F0, F1, HO, Ha, Hw, Hout⟩ Hk
  rw [wpB_bind]
  iapply (wp_loadChunk D K c 4 (s0Of b) [] (fun y hy => absurd hy List.not_mem_nil)) $$ [F0 HO]
  · isplitr; · iexact HR
    isplitr; · iexact Hlev
    isplitl [F0]; · iexact F0
    iexact HO
  iintro ⟨S0, L0, Z0, HO⟩
  rw [wpB_bind]
  iapply (wp_loadChunk D K c 4 (s1Of b) [] (fun y hy => absurd hy List.not_mem_nil)) $$ [F1 HO]
  · isplitr; · iexact HR
    isplitr; · iexact Hlev
    isplitl [F1]; · iexact F1
    iexact HO
  iintro ⟨S1, L1, Z1, HO⟩
  rw [wpB_bind]
  iapply (wp_attHeads D c b _ eight (fun _ => False)) $$ Ha; iintro Ha
  ihave Ha := (held_all (m := attM) (c := c) (S := (rAtt b).set) (G := attAt D c) (fun i _ => by
    refine .inr ⟨⟨((i : S256x512.Idx) 1).val / 64, ?_⟩, mem_eight _, rfl⟩
    have h0 : ((i : S256x512.Idx) 1).val < 512 := ((i : S256x512.Idx) 1).isLt
    omega)) $$ Ha
  iapply (wp_load 𝒱₀ (c : Thread nD τ) none Set.univ (m := attM) (by rw [set_on_whole])) $$ Ha; iintro Ha
  iapply (wp_load 𝒱₀ (c : Thread nD τ) none Set.univ (m := woM) (fun i _ => Finset.mem_univ i)) $$ Hw; iintro Hw
  rw [show (attM : Memref sig .tc .vmem S256x512 .f32).view.readAt (Elt F) (rAtt b).toLoadRect (attAt D c) = attRowsAt D c b from rfl,
    show (woM : Memref sig .tc .vmem S512x512 .f32).view.readAt (Elt F) rW.toLoadRect (D.wo c) = woAt D c from rfl]
  iapply (wp_load_held (m := outM) (c := c) (S := Finset.univ) (A := A) (G := outAt D c) _ (fun _ => rfl) (fun i _ => Finset.mem_univ i)) $$ Hout; iintro Hout
  iapply (wp_store_held (m := outM) (c := c) (S := Finset.univ) (A := A) (G := outAt D c) (r := rOut b) (fun i _ => Finset.mem_univ i) (store_out D c b)) $$ Hout; iintro Hout
  rw [wpB_ret]; imodintro
  iapply Hk
  isplitl [S0]; · iexact S0
  isplitl [L0]; · iexact L0
  isplitl [Z0]; · iexact Z0
  isplitl [S1]; · iexact S1
  isplitl [L1]; · iexact L1
  isplitl [Z1]; · iexact Z1
  isplitl [HO]; · iexact HO
  isplitl [Ha]; · iexact Ha
  isplitl [Hw]; · iexact Hw
  iapply (held_weaken (m := outM) (c := c) (A := fun i => A i ∨ i ∈ ((outM : Memref sig .tc .vmem S2x128x512 .f32).access (rOut b)).set)
    (fun i hi => hi.imp_right fun e => by rw [View.set_slice_whole]; exact (mem_rOut b i).mpr e)); iexact Hout

end Round

end Cert.KernelIdealProof
-- ==== Proof.Body.lean ====
/-
# The body of a device
-/
module

public import proofs.«01_k».proof.Proof.Rounds
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-! ## The landing buffers, split into their places and whole again -/

section Split
variable (D : Inputs F) (c : Dev nD)

/-- Two chunks of the partial outputs do not meet; -/
theorem accO_disj (s s' : Fin 4) (h : s ≠ s') : Disjoint (rAccO s).set (rAccO s').set :=
  Finset.disjoint_left.mpr fun i hi hi' => h (Fin.ext (by rw [mem_rAccO] at hi hi'; omega))
/-- the four of them make up the buffer. -/
theorem accO_cover : Finset.univ.biUnion (fun s : Fin 4 => (rAccO s).set) = (Finset.univ : Finset S16x128x64.Idx) := by
  refine Finset.eq_univ_of_forall fun i => Finset.mem_biUnion.mpr ?_
  have h0 : (i 0).val < 16 := (i 0).isLt
  exact ⟨⟨(i 0).val / 4, by omega⟩, Finset.mem_univ _, (mem_rAccO _ i).mpr rfl⟩
/-- Two landed chunks do not meet; -/
theorem rcvO_disj (p p' : Fin 5 × Fin 4) (h : p ≠ p') : Disjoint (rRcvO p.1 p.2).set (rRcvO p'.1 p'.2).set :=
  Finset.disjoint_left.mpr fun i hi hi' => h (by
    rw [mem_rRcvO] at hi hi'
    exact Prod.ext (Fin.ext (by omega)) (Fin.ext (by omega)))
/-- the twenty of them make up the landing buffer. -/
theorem rcvO_cover : Finset.univ.biUnion (fun p : Fin 5 × Fin 4 => (rRcvO p.1 p.2).set) = (Finset.univ : Finset S5x16x128x64.Idx) := by
  refine Finset.eq_univ_of_forall fun i => Finset.mem_biUnion.mpr ?_
  have h1 : (i 1).val < 16 := (i 1).isLt
  exact ⟨(⟨(i 0).val, (i 0).isLt⟩, ⟨(i 1).val / 4, by omega⟩), Finset.mem_univ _, (mem_rRcvO _ _ i).mpr ⟨rfl, rfl⟩⟩
/-- Two landed planes of maxima and sums do not meet; -/
theorem rcvML_disj (r r' : Fin 5) (h : r ≠ r') : Disjoint (rRcvML r).set (rRcvML r').set :=
  Finset.disjoint_left.mpr fun i hi hi' => h (by rw [mem_rRcvML] at hi hi'; exact Fin.ext (by omega))
/-- the five of them make up the landing buffer. -/
theorem rcvML_cover : Finset.univ.biUnion (fun r : Fin 5 => (rRcvML r).set) = (Finset.univ : Finset S5x2x16x128.Idx) := by
  refine Finset.eq_univ_of_forall fun i => Finset.mem_biUnion.mpr ?_
  exact ⟨⟨(i 0).val, (i 0).isLt⟩, Finset.mem_univ _, (mem_rRcvML _ i).mpr rfl⟩
/-- The attention rows of the two batch elements do not meet; -/
theorem att_disj (b b' : Fin 2) (h : b ≠ b') : Disjoint (rAtt b).set (rAtt b').set :=
  Finset.disjoint_left.mpr fun i hi hi' => h (by rw [mem_rAtt] at hi hi'; exact Fin.ext (by omega))
/-- together they are all the rows. -/
theorem att_cover : Finset.univ.biUnion (fun b : Fin 2 => (rAtt b).set) = (Finset.univ : Finset S256x512.Idx) := by
  refine Finset.eq_univ_of_forall fun i => Finset.mem_biUnion.mpr ?_
  have h0 : (i 0).val < 256 := (i 0).isLt
  exact ⟨⟨(i 0).val / 128, by omega⟩, Finset.mem_univ _, (mem_rAtt _ i).mpr rfl⟩

omit [FloatOps F] in
/-- A region with known contents is a region with some contents. -/
theorem some_pts {ℓ : Loc nD τ sig} {S : Finset (Idx ℓ)} (f : Buf (Elt F) ℓ) : (ℓ ↦[S]{fullShare} f : sProp 𝕄) ⊢ iprop(∃ f, ℓ ↦[S]{fullShare} f) := by
  iintro H; iexists f; iexact H

omit [FloatOps F] in
/-- The landing place of a chunk, as a region of the landing buffer. -/
theorem land_o (r : Fin 5) (s : Fin 4) : (land c (.inl (r, s)) : sProp 𝕄)
    = iprop(∃ f, (rcvO : Memref sig .tc .vmem S5x16x128x64 .bf16).view.loc (c : Thread nD τ) ↦[(rRcvO r s).set]{fullShare} f) := by
  rw [← set_oDst]; rfl
omit [FloatOps F] in
/-- The landing place of the maxima and sums, likewise. -/
theorem land_ml (r : Fin 5) : (land c (.inr r) : sProp 𝕄)
    = iprop(∃ f, (rcvML : Memref sig .tc .vmem S5x2x16x128 .f32).view.loc (c : Thread nD τ) ↦[(rRcvML r).set]{fullShare} f) := by
  rw [← set_mlDst]; rfl

omit [FloatOps F] in
/-- A conjunction over four indices, written out; -/
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
/-- over five; -/
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
omit [FloatOps F] in
/-- over two. -/
theorem bigSep_fin2 (Φ : Fin 2 → sProp 𝕄) : bigSep Finset.univ Φ = iprop(Φ 0 ∗ Φ 1) := bigSep_univ_eq_bigSepL [0, 1] (by decide) (by decide) Φ

omit [FloatOps F] in
/-- A conjunction bracketed to the right. -/
theorem sep_right (P Q R : sProp 𝕄) : iprop((P ∗ Q) ∗ R) = iprop(P ∗ Q ∗ R) := equiv_iff.mp ⟨BI.sep_assoc, BI.sep_assoc'⟩

/-- A family over all transfers, round by round. -/
def allRounds (Φ : Key → sProp 𝕄) : sProp 𝕄 := iprop(all5 Φ 0 ∗ all5 Φ 1 ∗ all5 Φ 2 ∗ all5 Φ 3 ∗ all5 Φ 4)

omit [FloatOps F] in
/-- The five transfers of a round: the four chunks, then the maxima and sums. -/
theorem all5_eq (Φ : Key → sProp 𝕄) (r : Fin 5) : all5 Φ r = iprop((bigSep Finset.univ fun s : Fin 4 => Φ (.inl (r, s))) ∗ Φ (.inr r)) := by
  rw [bigSep_fin4, all5]
  simp only [sep_right]
omit [FloatOps F] in
/-- The transfers of all the rounds: the twenty chunks, then the five planes. -/
theorem allRounds_eq (Φ : Key → sProp 𝕄) : allRounds Φ
    = iprop((bigSep Finset.univ fun p : Fin 5 × Fin 4 => Φ (.inl p)) ∗ bigSep Finset.univ fun r : Fin 5 => Φ (.inr r)) := by
  rw [bigSep_univ_prod, ← bigSep_sep', bigSep_fin5]
  simp only [← all5_eq]; rfl

omit [FloatOps F] in
/-- The landing buffers, whole, are the landing places of all the transfers. -/
theorem landing_split (f : Buf (Elt F) (rcvO.view.loc (c : Thread nD τ))) (g : Buf (Elt F) (rcvML.view.loc (c : Thread nD τ))) :
    (iprop(full rcvO c f ∗ full rcvML c g) : sProp 𝕄) ⊢ allRounds (land c) := by
  rw [allRounds_eq]
  refine BI.sep_mono ?_ ?_
  · refine (Entails.of_eq (pointsTo_blocks (fun p : Fin 5 × Fin 4 => (rRcvO p.1 p.2).set) rcvO_disj rcvO_cover f)).trans (bigSep_mono fun p _ => ?_)
    rw [land_o]; exact some_pts _
  · refine (Entails.of_eq (pointsTo_blocks (fun r : Fin 5 => (rRcvML r).set) rcvML_disj rcvML_cover g)).trans (bigSep_mono fun r _ => ?_)
    rw [land_ml]; exact some_pts _

/-- What has landed in all the rounds makes up the landing buffers. -/
theorem landing_join : (allRounds (landed D c) : sProp 𝕄) ⊢ iprop((∃ f, full rcvO c f) ∗ ∃ g, full rcvML c g) := by
  rw [allRounds_eq]
  refine BI.sep_mono ?_ ?_
  · refine (bigSep_mono fun p _ => ?_).trans (pointsTo_blocks_join_exists (fun p : Fin 5 × Fin 4 => (rRcvO p.1 p.2).set) rcvO_disj rcvO_cover (landO D c))
    refine (land_of_landed D c (.inl p)).trans (Entails.of_eq (land_o c p.1 p.2))
  · refine (bigSep_mono fun r _ => ?_).trans (pointsTo_blocks_join_exists (fun r : Fin 5 => (rRcvML r).set) rcvML_disj rcvML_cover (landML D c))
    exact (land_of_landed D c (.inr r)).trans (Entails.of_eq (land_ml c r))

omit [FloatOps F] in
/-- The two halves of the partial outputs do not meet; -/
theorem half_disj : Disjoint (half 0) (half 1) :=
  Finset.disjoint_left.mpr fun i hi hi' => by
    rw [mem_half] at hi hi'
    have h0 : ((0 : Fin 2) : ℕ) = 0 := rfl
    have h1 : ((1 : Fin 2) : ℕ) = 1 := rfl
    omega
omit [FloatOps F] in
/-- together they are the buffer. -/
theorem half_cover : half 0 ∪ half 1 = (Finset.univ : Finset S16x128x64.Idx) := by
  refine Finset.eq_univ_of_forall fun i => ?_
  have h0 : (i 0).val < 16 := (i 0).isLt
  rw [Finset.mem_union, mem_half, mem_half]
  show _ = 0 ∨ _ = 1
  omega

omit [FloatOps F] in
/-- The partial outputs, split by batch element. -/
theorem accO_halves (f : Buf (Elt F) (accO.view.loc (c : Thread nD τ))) : (full accO c f : sProp 𝕄)
    ⊢ iprop((accO.view.loc (c : Thread nD τ) ↦[half 0]{fullShare} f) ∗ accO.view.loc (c : Thread nD τ) ↦[half 1]{fullShare} f) := by
  unfold full
  rw [pts_set (half_cover.symm : (Finset.univ : Finset (Idx (accO.view.loc (c : Thread nD τ)))) = half 0 ∪ half 1)]
  exact (pointsTo_union half_disj).1

/-- The heads of batch element `b` done, its two chunks are what round 0 sends. -/
theorem half_sent (b : Fin 2) : held accO c (half b) (fun i => False ∨ ∃ h ∈ (eight : List (Fin 8)), ((i : S16x128x64.Idx) 0).val = 8 * b.val + h.val) (localO D c)
    ⊢ iprop(sent D c (.inl (0, s0Of b)) ∗ sent D c (.inl (0, s1Of b))) := by
  refine (held_all (m := accO) (c := c) (S := half b) (G := localO D c) (fun i hi => .inr (by
    have hb := (mem_half b i).mp hi
    exact ⟨⟨((i : S16x128x64.Idx) 0).val % 8, Nat.mod_lt _ (by decide)⟩, mem_eight _, by show _ = 8 * b.val + _ % 8; omega⟩))).trans ?_
  · rw [sent_o, sent_o]
    exact (pointsTo_union (accO_disj _ _ (by intro h; have := congrArg Fin.val h; simp only [s0Of, s1Of] at this; omega))).1

omit [FloatOps F] in
/-- The attention rows, split by batch element, -/
theorem att_split (f : Buf (Elt F) (attM.view.loc (c : Thread nD τ))) : (full attM c f : sProp 𝕄)
    ⊢ iprop((attM.view.loc (c : Thread nD τ) ↦[(rAtt 0).set]{fullShare} f) ∗ attM.view.loc (c : Thread nD τ) ↦[(rAtt 1).set]{fullShare} f) := by
  refine (Entails.of_eq (pointsTo_blocks (fun b : Fin 2 => (rAtt b).set) att_disj att_cover f)).trans ?_
  rw [bigSep_fin2]
/-- and put together again. -/
theorem att_join : iprop((attM.view.loc (c : Thread nD τ) ↦[(rAtt 0).set]{fullShare} (attAt D c)) ∗ attM.view.loc (c : Thread nD τ) ↦[(rAtt 1).set]{fullShare} (attAt D c))
    ⊢ (iprop(∃ f, full attM c f) : sProp 𝕄) := by
  refine BI.Entails.trans ?_ (pointsTo_blocks_join_exists (fun b : Fin 2 => (rAtt b).set) att_disj att_cover (attAt D c))
  rw [bigSep_fin2]
  exact BI.sep_mono (some_pts _) (some_pts _)
/-- The four chunks sent in the last round make up the partial outputs. -/
theorem accO_join : iprop(sent D c (.inl (4, 0)) ∗ sent D c (.inl (4, 1)) ∗ sent D c (.inl (4, 2)) ∗ sent D c (.inl (4, 3)))
    ⊢ (iprop(∃ f, full accO c f) : sProp 𝕄) := by
  refine BI.Entails.trans ?_ (pointsTo_blocks_join_exists (fun s : Fin 4 => (rAccO s).set) accO_disj accO_cover (localO D c))
  rw [bigSep_fin4]
  simp only [sent_o]
  exact BI.sep_mono (some_pts _) (BI.sep_mono (some_pts _) (BI.sep_mono (some_pts _) (some_pts _)))

end Split

/-! ## The barrier -/

section Steps
variable (D : Inputs F) (K : Dev nD × Ck → ℕ) (c : Dev nD)

/-- The landing places of a round pay the barrier signal to that round's partner. -/
theorem pay_bar (d : Fin 5) : (landRound c d : sProp 𝕄) ⊢ (sched D).payload ((peer d c : Thread nD τ), .reg barS) 0 d :=
  Entails.of_eq ((show landRound c d = (landRound (peer d (peer d c)) d : sProp 𝕄) from by rw [peer_peer]).trans (payload_at D (peer d c, none) d).symm)

/-- The signal to the partner of round `d` hands over the landing places of that round. -/
theorem wp_bar (d : Fin 5) (l : List Due) (Q : PUnit → sProp 𝕄) :
    iprop(records D K ∗ dutyTok ER (barCell (peer d c)) 0 d ∗ landRound c d ∗ owesL c (.inl d :: l))
      ⊢ iprop((owesL c l -∗ Q ⟨⟩) -∗ wpB c (semSignalWord (peer d c) barS 1#32) Q) := by
  unfold owesL
  iintro ⟨#HR, Ht, Hl, ⟨%W, HO⟩⟩ Hk
  unfold semSignalWord
  iapply (Rounds.wp_signal 𝒱₀ ER (sched D) (c : Thread nD τ) none (dst := (peer d c : Thread nD τ)) (κ := K (peer d c, none)) (r := 0)
      (d := d) (duties_bar D (peer d c) d) ((amount_at D (peer d c, none) d).trans (show 1 = _ by decide)) () (owedL c l) rfl (W := W)) $$ [HO Ht Hl]
  · isplitr; · iapply (inv_at D K (peer d c, none)); iexact HR
    isplitl [HO]; · iexact HO
    isplitl [Ht]; · iexact Ht
    isplitl [Hl]
    · iapply (pay_bar D c d); iexact Hl
    · iapply (reached_at D K (peer d c, none)); iexact HR
  iintro HO
  iapply (Entails.of_eq (wpB_ret c _ Q).symm); imodintro
  iapply Hk; iexists W; iexact HO

/-- The wait for the five partners: their landing places, and the cell closed. -/
theorem wp_barWait (l : List Due) (hl : ∀ y ∈ l, 1 < lvDue y) (Q : PUnit → sProp 𝕄) :
    iprop(records D K ∗ levAts L lv ∗ cred (tallyAt (barCell c) () 5) ∗ atPos ER (barCell c) 0 ∅ 0 ∗ owesL c l)
      ⊢ iprop(((landRound (peer 0 c) 0 ∗ landRound (peer 1 c) 1 ∗ landRound (peer 2 c) 2 ∗ landRound (peer 3 c) 3 ∗ landRound (peer 4 c) 4
          ∗ semVal (barCell c) 0 ∗ owesL c l) -∗ Q ⟨⟩) -∗ wpB c (semWaitWord barS 5#32) Q) := by
  unfold owesL
  iintro ⟨#HR, #Hlev, Hc, Ha, ⟨%W, HO⟩⟩ Hk
  unfold semWaitWord
  iapply (Rounds.wp_wait_rest_token 𝒱₀ ER (sched D) (c : Thread nD τ) none (κ := K (c, none))
      (wpE_semWait_eq 𝒱₀ (c : Thread nD τ) none Set.univ) (Set.mem_univ _) () (O := owedL c l) (W := W) (R := 0) (m := 0) (T := ∅)
      (by rw [expect_bar]; decide)) $$ [Hc HO Ha]
  · isplitr; · iapply (inv_at D K (c, none)); iexact HR
    isplitl [Hc]; · iexact Hc
    isplitl [HO]; · iexact HO
    isplitr; · iapply (mayWait c (.reg barS) l _ (lv_kcell (c, none)) hl); iexact Hlev
    iexact Ha
  iintro ⟨HO, Ha, -, Hpay⟩
  ihave Hp := (Entails.of_eq (rest_bar D c)) $$ Hpay
  icases Hp with ⟨N0, N1, N2, N3, N4⟩
  imod (Rounds.cell_close ER (sched D) (Set.mem_univ (K (c, none))) (fun h => h) (R := 0 + 1) (duties_later D (kcell (c, none)))) $$ [Ha] with Hz
  · isplitr; · iapply (inv_at D K (c, none)); iexact HR
    iexact Ha
  iapply (Entails.of_eq (wpB_ret c _ Q).symm); imodintro
  iapply Hk
  isplitl [N0]; · iexact N0
  isplitl [N1]; · iexact N1
  isplitl [N2]; · iexact N2
  isplitl [N3]; · iexact N3
  isplitl [N4]; · iexact N4
  isplitl [Hz]; · iexact Hz
  iexists _; iexact HO

end Steps

end Cert.KernelIdealProof
-- ==== Proof.Whole.lean ====
/-
# The body of a device, from its first signal to its last store
-/
module

public import proofs.«01_k».proof.Proof.Body

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole
variable (D : Inputs F) (K : Dev nD × Ck → ℕ) (c : Dev nD)

/-- The scratch buffers and the result's, at anything. -/
def scratch : sProp 𝕄 :=
  iprop((∃ f, full accO c f) ∗ (∃ f, full accML c f) ∗ (∃ f, full rcvO c f) ∗ (∃ f, full rcvML c f) ∗ (∃ f, full attM c f))
/-- The five inputs, at their blocks. -/
def inputs : sProp 𝕄 := iprop(full xM c (D.x c) ∗ full wqM c (D.wq c) ∗ full woM c (D.wo c) ∗ full kM c (D.k c) ∗ full vM c (D.v c))
/-- What a device has of the barrier: its own cell, the credit to wait there, and its payments to its partners'. -/
def barrierIn : sProp 𝕄 :=
  iprop(atPos ER (barCell c) 0 ∅ 0 ∗ cred (tallyAt (barCell c) () 5)
    ∗ dutyTok ER (barCell (peer 0 c)) 0 (0 : Fin 5) ∗ dutyTok ER (barCell (peer 1 c)) 0 (1 : Fin 5) ∗ dutyTok ER (barCell (peer 2 c)) 0 (2 : Fin 5)
    ∗ dutyTok ER (barCell (peer 3 c)) 0 (3 : Fin 5) ∗ dutyTok ER (barCell (peer 4 c)) 0 (4 : Fin 5))

/-- What the body starts from. -/
def bodyIn : sProp 𝕄 :=
  iprop(records D K ∗ levAts L lv ∗ barrierIn c ∗ allRounds (idle c) ∗ owesL c allDues ∗ inputs D c ∗ (∃ f, full outM c f) ∗ scratch c)
/-- What the body ends with. -/
def bodyOut : sProp 𝕄 :=
  iprop(allRounds (shut c) ∗ semVal (barCell c) 0 ∗ owesL c [] ∗ inputs D c ∗ full outM c (outAt D c) ∗ scratch c)

/-- The five landing places of a round. -/
theorem all5_land (r : Fin 5) : (all5 (land c) r : sProp 𝕄) ⊢ landRound c r := BI.Entails.refl _
/-- The five transfers of a round gathered -/
theorem all5_intro (Φ : Key → sProp 𝕄) (r : Fin 5) :
    iprop(Φ (.inl (r, 0)) ∗ Φ (.inl (r, 1)) ∗ Φ (.inl (r, 2)) ∗ Φ (.inl (r, 3)) ∗ Φ (.inr r)) ⊢ all5 Φ r := BI.Entails.refl _

/-- and taken apart. -/
theorem all5_elim (Φ : Key → sProp 𝕄) (r : Fin 5) :
    all5 Φ r ⊢ iprop(Φ (.inl (r, 0)) ∗ Φ (.inl (r, 1)) ∗ Φ (.inl (r, 2)) ∗ Φ (.inl (r, 3)) ∗ Φ (.inr r)) := BI.Entails.refl _
/-- The landing places of a round, one by one. -/
theorem landRound_elim (r : Fin 5) (d : Dev nD) :
    (landRound d r : sProp 𝕄) ⊢ iprop(land d (.inl (r, 0)) ∗ land d (.inl (r, 1)) ∗ land d (.inl (r, 2)) ∗ land d (.inl (r, 3)) ∗ land d (.inr r)) := BI.Entails.refl _

/-- The heads of both batch elements done, the two planes are what round 0 sends; -/
theorem ml_done : (held accML c Finset.univ (fun i => (False ∨ ∃ h ∈ (eight : List (Fin 8)), ((i : S2x16x128.Idx) 1).val = 8 * (0 : Fin 2).val + h.val)
      ∨ ∃ h ∈ (eight : List (Fin 8)), ((i : S2x16x128.Idx) 1).val = 8 * (1 : Fin 2).val + h.val) (localML D c) : sProp 𝕄) ⊢ sent D c (.inr 0) :=
  (held_all (m := accML) (c := c) (S := Finset.univ) (G := localML D c) (fun i _ => by
    have h1 : ((i : S2x16x128.Idx) 1).val < 16 := ((i : S2x16x128.Idx) 1).isLt
    by_cases h : ((i : S2x16x128.Idx) 1).val < 8
    · exact .inl (.inr ⟨⟨((i : S2x16x128.Idx) 1).val, h⟩, mem_eight _, by show ((i : S2x16x128.Idx) 1).val = 8 * 0 + ((i : S2x16x128.Idx) 1).val; omega⟩)
    · exact .inr ⟨⟨((i : S2x16x128.Idx) 1).val - 8, by omega⟩, mem_eight _, by show _ = 8 * 1 + (_ - 8); omega⟩)).trans (Entails.of_eq (sent_ml D c 0).symm)
/-- both batch elements stored, the result is whole. -/
theorem out_done : (held outM c Finset.univ (fun i => (False ∨ ((i : S2x128x512.Idx) 0).val = (0 : Fin 2).val) ∨ ((i : S2x128x512.Idx) 0).val = (1 : Fin 2).val) (outAt D c) : sProp 𝕄)
    ⊢ full outM c (outAt D c) :=
  held_all (m := outM) (c := c) (S := Finset.univ) (G := outAt D c) (fun i _ => by
    have h1 : ((i : S2x128x512.Idx) 0).val < 2 := ((i : S2x128x512.Idx) 0).isLt
    by_cases h : ((i : S2x128x512.Idx) 0).val = 0
    · exact .inl (.inr h)
    · exact .inr (by show _ = 1; omega))

/-- Reading the device's number. -/
theorem wpB_deviceId {α : Type} (k : Dev nD → P F α) (Q : α → sProp 𝕄) : wpB c (.op .deviceId k) Q = wpB c (k c) Q := by
  unfold wpB; exact wp_deviceId ..
/-- A load from a buffer that is held. -/
theorem wp_loadB {s : Shape} {e : EltTy} {m : Memref sig .tc .vmem s e} {α : Type} {Q : α → sProp 𝕄} {r : LoadRect s} {hl : m.view.LoadsAt r}
    {k : (r.shape.Idx → Elt F e) → P F α} (f : Buf (Elt F) (m.view.loc (c : Thread nD τ))) :
    full m c f ⊢ iprop((full m c f -∗ wpB c (k (m.view.readAt (Elt F) r f)) Q) -∗ wpB c (.op (.load m r hl) k) Q) := by
  unfold full; iintro H Hk
  iapply (wp_load 𝒱₀ (c : Thread nD τ) none Set.univ (m := m) (fun i _ => Finset.mem_univ i)) $$ H; iintro H
  iapply Hk; iexact H

set_option maxHeartbeats 4000000 in
set_option maxRecDepth 8000 in
/-- The body. -/
theorem wp_prog (Q : PUnit → sProp 𝕄) : bodyIn D K c ⊢ iprop((bodyOut D c -∗ Q ⟨⟩) -∗ wpB c prog Q) := by
  unfold prog
  simp only [Prog.lift, Prog.bind_op, Prog.bind_ret]
  unfold bodyIn barrierIn allRounds inputs scratch
  iintro ⟨#HR, #Hlev, ⟨HaB, HcB, T0, T1, T2, T3, T4⟩, ⟨I0, I1, I2, I3, I4⟩, HO, ⟨Hx, Hwq, Hwo, Hkk, Hv⟩, ⟨%fout, Hout⟩,
    ⟨%fo, Ho⟩, ⟨%fml, Hml⟩, ⟨%gro, Hro⟩, ⟨%grml, Hrml⟩, ⟨%fatt, Hatt⟩⟩ Hk
  ihave HL := (landing_split c gro grml) $$ [Hro Hrml]
  · isplitl [Hro]; · iexact Hro
    iexact Hrml
  unfold allRounds
  icases HL with ⟨L0, L1, L2, L3, L4⟩
  rw [wpB_deviceId]
  rw [wpB_bind]
  iapply (wp_bar D K c 0 ([.inl 1, .inl 2, .inl 3, .inl 4] ++ xferDues)) $$ [T0 L0 HO]
  · isplitr; · iexact HR
    isplitl [T0]; · iexact T0
    isplitl [L0]; · iapply (all5_land c 0); iexact L0
    iexact HO
  iintro HO
  rw [wpB_bind]
  iapply (wp_bar D K c 1 ([.inl 2, .inl 3, .inl 4] ++ xferDues)) $$ [T1 L1 HO]
  · isplitr; · iexact HR
    isplitl [T1]; · iexact T1
    isplitl [L1]; · iapply (all5_land c 1); iexact L1
    iexact HO
  iintro HO
  rw [wpB_bind]
  iapply (wp_bar D K c 2 ([.inl 3, .inl 4] ++ xferDues)) $$ [T2 L2 HO]
  · isplitr; · iexact HR
    isplitl [T2]; · iexact T2
    isplitl [L2]; · iapply (all5_land c 2); iexact L2
    iexact HO
  iintro HO
  rw [wpB_bind]
  iapply (wp_bar D K c 3 ([.inl 4] ++ xferDues)) $$ [T3 L3 HO]
  · isplitr; · iexact HR
    isplitl [T3]; · iexact T3
    isplitl [L3]; · iapply (all5_land c 3); iexact L3
    iexact HO
  iintro HO
  rw [wpB_bind]
  iapply (wp_bar D K c 4 ([] ++ xferDues)) $$ [T4 L4 HO]
  · isplitr; · iexact HR
    isplitl [T4]; · iexact T4
    isplitl [L4]; · iapply (all5_land c 4); iexact L4
    iexact HO
  iintro HO
  iapply (wp_loadB c (m := xM) (D.x c)) $$ Hx; iintro Hx
  iapply (wp_loadB c (m := wqM) (D.wq c)) $$ Hwq; iintro Hwq
  ihave Hoo := (accO_halves c fo) $$ Ho
  icases Hoo with ⟨Ho0, Ho1⟩
  ihave Ho0 := (held_of (m := accO) (c := c) (S := half 0) (G := localO D c) fo) $$ Ho0
  ihave Ho1 := (held_of (m := accO) (c := c) (S := half 1) (G := localO D c) fo) $$ Ho1
  ihave Hml := (held_of (m := accML) (c := c) (S := Finset.univ) (G := localML D c) fml) $$ Hml
  rw [wpB_bind]
  iapply (wp_heads D c 0 _ eight (fun _ => False) (fun _ => False)) $$ [Hkk Hv Ho0 Hml]
  · isplitl [Hkk]; · iexact Hkk
    isplitl [Hv]; · iexact Hv
    isplitl [Ho0]; · iexact Ho0
    iexact Hml
  iintro ⟨Hkk, Hv, Ho0, Hml⟩
  rw [wpB_bind]
  iapply (wp_barWait D K c xferDues (by decide)) $$ [HcB HaB HO]
  · isplitr; · iexact HR
    isplitr; · iexact Hlev
    isplitl [HcB]; · iexact HcB
    isplitl [HaB]; · iexact HaB
    iexact HO
  iintro ⟨N0, N1, N2, N3, N4, HzB, HO⟩
  ihave Hs := (half_sent D c 0) $$ Ho0
  icases Hs with ⟨S0, S1⟩
  ihave I0 := (all5_elim (idle c) 0) $$ I0
  ihave N0 := (landRound_elim 0 (peer 0 c)) $$ N0
  icases I0 with ⟨I00, I01, I02, I03, I0M⟩
  icases N0 with ⟨N00, N01, N02, N03, N0M⟩
  rw [wpB_bind]
  iapply (wp_startO D K c 0 0 ([.inr (.inl (0, 1)), .inr (.inr 0), .inr (.inl (0, 2)), .inr (.inl (0, 3))] ++ (roundDues 1 ++ (roundDues 2 ++ (roundDues 3 ++ roundDues 4))))) $$ [I00 S0 N00 HO]
  · isplitr; · iexact HR
    isplitl [I00]; · iexact I00
    isplitl [S0]; · iexact S0
    isplitl [N00]; · iexact N00
    iexact HO
  iintro ⟨F00, HO⟩
  rw [wpB_bind]
  iapply (wp_startO D K c 0 1 ([.inr (.inr 0), .inr (.inl (0, 2)), .inr (.inl (0, 3))] ++ (roundDues 1 ++ (roundDues 2 ++ (roundDues 3 ++ roundDues 4))))) $$ [I01 S1 N01 HO]
  · isplitr; · iexact HR
    isplitl [I01]; · iexact I01
    isplitl [S1]; · iexact S1
    isplitl [N01]; · iexact N01
    iexact HO
  iintro ⟨F01, HO⟩
  iapply (wp_loadB c (m := wqM) (D.wq c)) $$ Hwq; iintro Hwq
  rw [wpB_bind]
  iapply (wp_heads D c 1 _ eight (fun _ => False) _) $$ [Hkk Hv Ho1 Hml]
  · isplitl [Hkk]; · iexact Hkk
    isplitl [Hv]; · iexact Hv
    isplitl [Ho1]; · iexact Ho1
    iexact Hml
  iintro ⟨Hkk, Hv, Ho1, Hml⟩
  ihave Hml := (ml_done D c) $$ Hml
  ihave Hs := (half_sent D c 1) $$ Ho1
  icases Hs with ⟨S2, S3⟩
  rw [wpB_bind]
  iapply (wp_startML D K c 0 ([.inr (.inl (0, 2)), .inr (.inl (0, 3))] ++ (roundDues 1 ++ (roundDues 2 ++ (roundDues 3 ++ roundDues 4))))) $$ [I0M Hml N0M HO]
  · isplitr; · iexact HR
    isplitl [I0M]; · iexact I0M
    isplitl [Hml]; · iexact Hml
    isplitl [N0M]; · iexact N0M
    iexact HO
  iintro ⟨F0M, HO⟩
  rw [wpB_bind]
  iapply (wp_startO D K c 0 2 ([.inr (.inl (0, 3))] ++ (roundDues 1 ++ (roundDues 2 ++ (roundDues 3 ++ roundDues 4))))) $$ [I02 S2 N02 HO]
  · isplitr; · iexact HR
    isplitl [I02]; · iexact I02
    isplitl [S2]; · iexact S2
    isplitl [N02]; · iexact N02
    iexact HO
  iintro ⟨F02, HO⟩
  rw [wpB_bind]
  iapply (wp_startO D K c 0 3 ([] ++ (roundDues 1 ++ (roundDues 2 ++ (roundDues 3 ++ roundDues 4))))) $$ [I03 S3 N03 HO]
  · isplitr; · iexact HR
    isplitl [I03]; · iexact I03
    isplitl [S3]; · iexact S3
    isplitl [N03]; · iexact N03
    iexact HO
  iintro ⟨F03, HO⟩
  ihave F0 := (all5_intro (flying c) 0) $$ [F00 F01 F02 F03 F0M]
  · isplitl [F00]; · iexact F00
    isplitl [F01]; · iexact F01
    isplitl [F02]; · iexact F02
    isplitl [F03]; · iexact F03
    iexact F0M
  rw [wpB_bind]
  iapply (wp_round D K c 0 1 rfl (roundDues 2 ++ (roundDues 3 ++ roundDues 4)) (by decide)) $$ [F0 I1 N1 HO]
  · isplitr; · iexact HR
    isplitr; · iexact Hlev
    isplitl [F0]; · iexact F0
    isplitl [I1]; · iexact I1
    isplitl [N1]; · iexact N1
    iexact HO
  iintro ⟨F1, D0, Z0, HO⟩
  rw [wpB_bind]
  iapply (wp_round D K c 1 2 rfl (roundDues 3 ++ roundDues 4) (by decide)) $$ [F1 I2 N2 HO]
  · isplitr; · iexact HR
    isplitr; · iexact Hlev
    isplitl [F1]; · iexact F1
    isplitl [I2]; · iexact I2
    isplitl [N2]; · iexact N2
    iexact HO
  iintro ⟨F2, D1, Z1, HO⟩
  rw [wpB_bind]
  iapply (wp_round D K c 2 3 rfl (roundDues 4) (by decide)) $$ [F2 I3 N3 HO]
  · isplitr; · iexact HR
    isplitr; · iexact Hlev
    isplitl [F2]; · iexact F2
    isplitl [I3]; · iexact I3
    isplitl [N3]; · iexact N3
    iexact HO
  iintro ⟨F3, D2, Z2, HO⟩
  rw [wpB_bind]
  iapply (wp_round D K c 3 4 rfl ([]) (by decide)) $$ [F3 I4 N4 HO]
  · isplitr; · iexact HR
    isplitr; · iexact Hlev
    isplitl [F3]; · iexact F3
    isplitl [I4]; · iexact I4
    isplitl [N4]; · iexact N4
    iexact HO
  iintro ⟨F4, D3, Z3, HO⟩
  ihave F4 := (all5_elim (flying c) 4) $$ F4
  icases F4 with ⟨F40, F41, F42, F43, F4M⟩
  rw [wpB_bind]
  iapply (wp_mergeML D K c 4 [] (fun y hy => absurd hy List.not_mem_nil)) $$ [F4M HO]
  · isplitr; · iexact HR
    isplitr; · iexact Hlev
    isplitl [F4M]; · iexact F4M
    iexact HO
  iintro ⟨Hml, D4M, Z4M, HO⟩
  ihave Haa := (att_split c fatt) $$ Hatt
  icases Haa with ⟨Ha0, Ha1⟩
  ihave Ha0 := (held_of (m := attM) (c := c) (S := (rAtt 0).set) (G := attAt D c) fatt) $$ Ha0
  ihave Ha1 := (held_of (m := attM) (c := c) (S := (rAtt 1).set) (G := attAt D c) fatt) $$ Ha1
  ihave Hout := (held_of (m := outM) (c := c) (S := Finset.univ) (G := outAt D c) fout) $$ Hout
  rw [wpB_bind]
  iapply (wp_lastRound D K c 0 (fun _ => False)) $$ [F40 F41 HO Ha0 Hwo Hout]
  · isplitr; · iexact HR
    isplitr; · iexact Hlev
    isplitl [F40]; · iexact F40
    isplitl [F41]; · iexact F41
    isplitl [HO]; · iexact HO
    isplitl [Ha0]; · iexact Ha0
    isplitl [Hwo]; · iexact Hwo
    iexact Hout
  iintro ⟨S0, D40, Z40, S1, D41, Z41, HO, Ha0, Hwo, Hout⟩
  iapply (wp_lastRound D K c 1 (_)) $$ [F42 F43 HO Ha1 Hwo Hout]
  · isplitr; · iexact HR
    isplitr; · iexact Hlev
    isplitl [F42]; · iexact F42
    isplitl [F43]; · iexact F43
    isplitl [HO]; · iexact HO
    isplitl [Ha1]; · iexact Ha1
    isplitl [Hwo]; · iexact Hwo
    iexact Hout
  iintro ⟨S2, D42, Z42, S3, D43, Z43, HO, Ha1, Hwo, Hout⟩
  ihave Hout := (out_done D c) $$ Hout
  ihave Hatt := (att_join D c) $$ [Ha0 Ha1]
  · isplitl [Ha0]; · iexact Ha0
    iexact Ha1
  ihave Ho := (accO_join D c) $$ [S0 S1 S2 S3]
  · isplitl [S0]; · iexact S0
    isplitl [S1]; · iexact S1
    isplitl [S2]; · iexact S2
    iexact S3
  ihave HL := (landing_join D c) $$ [D0 D1 D2 D3 D40 D41 D42 D43 D4M]
  · unfold allRounds all5
    isplitl [D0]; · iexact D0
    isplitl [D1]; · iexact D1
    isplitl [D2]; · iexact D2
    isplitl [D3]; · iexact D3
    isplitl [D40]; · iexact D40
    isplitl [D41]; · iexact D41
    isplitl [D42]; · iexact D42
    isplitl [D43]; · iexact D43
    iexact D4M
  icases HL with ⟨Hro, Hrml⟩
  iapply Hk
  unfold bodyOut allRounds all5 inputs scratch
  isplitl [Z0 Z1 Z2 Z3 Z40 Z41 Z42 Z43 Z4M]
  · isplitl [Z0]; · iexact Z0
    isplitl [Z1]; · iexact Z1
    isplitl [Z2]; · iexact Z2
    isplitl [Z3]; · iexact Z3
    isplitl [Z40]; · iexact Z40
    isplitl [Z41]; · iexact Z41
    isplitl [Z42]; · iexact Z42
    isplitl [Z43]; · iexact Z43
    iexact Z4M
  isplitl [HzB]; · iexact HzB
  isplitl [HO]; · iexact HO
  isplitl [Hx Hwq Hwo Hkk Hv]
  · isplitl [Hx]; · iexact Hx
    isplitl [Hwq]; · iexact Hwq
    isplitl [Hwo]; · iexact Hwo
    isplitl [Hkk]; · iexact Hkk
    iexact Hv
  isplitl [Hout]; · iexact Hout
  isplitl [Ho]; · iexact Ho
  isplitl [Hml]; · iexists _; iexact Hml
  isplitl [Hro]; · iexact Hro
  isplitl [Hrml]; · iexact Hrml
  iexact Hatt

end Whole

end Cert.KernelIdealProof
-- ==== Proof.Launch.lean ====
/-
# The launch

What a device starts the body with is dealt out of the launch's resources: the cells of the transfers and of the
barrier get their invariants for all devices at once, a duty's token goes to the device that pays it, and the credit
on a cell is what the partners owe there.
-/
module

public import proofs.«01_k».proof.Proof.Whole

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the cells of a device -/

omit [FloatOps F] in
/-- The transfers of all the rounds are all the transfers. -/
theorem allRounds_key (Φ : Key → sProp 𝕄) : allRounds Φ = bigSep Finset.univ Φ := by rw [allRounds_eq, bigSep_univ_sum]; rfl
omit [FloatOps F] in
/-- A conjunction over both directions of every transfer. -/
theorem bigSep_dir (Φ : Bool × Key → sProp 𝕄) :
    bigSep Finset.univ Φ = iprop((bigSep Finset.univ fun k => Φ (false, k)) ∗ bigSep Finset.univ fun k => Φ (true, k)) := by
  rw [bigSep_univ_prod]; exact bigSep_univ_eq_bigSepL [false, true] (by decide) (by decide) _
omit [FloatOps F] in
/-- A conjunction over all the cells of a device: the transfers', then the barrier's. -/
theorem bigSep_ck (Φ : Ck → sProp 𝕄) : bigSep Finset.univ Φ = iprop((bigSep Finset.univ fun x => Φ (some x)) ∗ Φ none) := by
  rw [bigSep_univ_equiv (Equiv.optionEquivSumPUnit.{0} (Bool × Key)).symm, bigSep_univ_sum, bigSep_univ_of_subsingleton PUnit.unit]
  rfl
omit [FloatOps F] in
/-- A family over devices and `I`, read at each device's partner of the round `r i`. -/
theorem around {I : Type} [Fintype I] (r : I → Fin 5) (T : Dev nD → I → sProp 𝕄) :
    (bigSep Finset.univ fun c : Dev nD => bigSep Finset.univ fun i : I => T c i) = bigSep Finset.univ fun c : Dev nD => bigSep Finset.univ fun i : I => T (peer (r i) c) i := by
  rw [BI.bigSep_univ_comm, BI.bigSep_univ_comm (fun c i => T (peer (r i) c) i)]
  exact bigSep_congr fun i _ => bigSep_univ_equiv (peerEquiv (r i)) fun c => T c i

/-! ## What is owed at a cell -/

/-- The cell a due pays. -/
def ckOf : Due → Ck | .inl _ => none | .inr k => some (true, k)
/-- The round it belongs to. -/
def rndOf : Due → Fin 5 | .inl d => d | .inr k => rnd k
/-- A due pays a cell of its round's partner. -/
theorem dueCell_eq (c : Dev nD) (x : Due) : dueCell c x = kcell (peer (rndOf x) c, ckOf x) := by cases x <;> rfl

/-- What a list of dues owes a cell: the sum over the list. -/
theorem owedL_apply (c : Dev nD) (g : GSem nD τ sig) : ∀ l : List Due, owedL c l g () = (l.map fun x => if g = dueCell c x then dueAmt x else 0).sum
  | [] => rfl
  | x :: l => by
    unfold owedL
    rw [Pi.add_apply, Finsupp.add_apply, tallyAt_apply, owedL_apply c g l, List.map_cons, List.sum_cons, Nat.add_comm]
    congr 1
    by_cases h : g = dueCell c x
    · rw [if_pos ⟨h, rfl⟩, if_pos h]
    · rw [if_neg (fun h' => h h'.1), if_neg h]

/-- What all the dues owe a cell. -/
theorem owed_all (c : Dev nD) (g : GSem nD τ sig) : owedL c allDues g () = ∑ x : Due, if g = dueCell c x then dueAmt x else 0 := by
  rw [owedL_apply, allDues_univ, List.sum_toFinset _ allDues_nodup]

/-- What all the devices together owe a cell of one of them. -/
theorem owed_at (k : Ck) (c : Dev nD) : ∑ d : Dev nD, owedL d allDues (kcell (c, k)) () = ∑ x : Due, if k = ckOf x then dueAmt x else 0 := by
  rw [Finset.sum_congr rfl fun d _ => owed_all d (kcell (c, k)), Finset.sum_comm]
  refine Finset.sum_congr rfl fun x _ => ?_
  rw [Finset.sum_eq_single (peer (rndOf x) c)]
  · rw [dueCell_eq, peer_peer]
    by_cases h : k = ckOf x
    · rw [if_pos (by rw [h]), if_pos h]
    · rw [if_neg (fun h' => h (congrArg Prod.snd (kcell_injective h'))), if_neg h]
  · intro d _ hd
    rw [dueCell_eq]
    refine if_neg fun h' => hd ?_
    have := congrArg Prod.fst (kcell_injective h')
    rw [show c = peer (rndOf x) d from this, peer_peer]
  · exact fun h => absurd (Finset.mem_univ _) h

/-- A barrier is owed five. -/
theorem owed_bar : (∑ x : Due, if (none : Ck) = ckOf x then dueAmt x else 0) = 5 := by
  rw [Fintype.sum_sum_type]
  have h2 : (∑ k : Key, if (none : Ck) = ckOf (.inr k) then dueAmt (.inr k) else 0) = 0 := Finset.sum_eq_zero fun k _ => if_neg (by simp [ckOf])
  rw [h2]; rfl
/-- A receive cell is owed one transfer. -/
theorem owed_recv (k : Key) : (∑ x : Due, if (some (true, k) : Ck) = ckOf x then dueAmt x else 0) = N k := by
  rw [Finset.sum_eq_single (.inr k)]
  · exact if_pos rfl
  · intro x _ hx
    refine if_neg fun h => hx ?_
    cases x with
    | inl d => simp [ckOf] at h
    | inr k' => simp only [ckOf, Option.some.injEq, Prod.mk.injEq, true_and] at h; rw [h]
  · exact fun h => absurd (Finset.mem_univ _) h

/-- What all devices owe, each its own. -/
abbrev O₀ (c : Dev nD) : CellTallies nD τ sig Unit := owedL c allDues

/-- The credit a cell is launched with is what it is owed. -/
theorem launch_at (k : Ck) (c : Dev nD) (n : ℕ) (h : (∑ x : Due, if k = ckOf x then dueAmt x else 0) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_at, h]

/-- The cells a device waits at for others: its barrier's and its receive cells. -/
def waitCk : PUnit ⊕ Key → Ck | .inl _ => none | .inr k => some (true, k)
/-- The cells a device waits on for others: its barrier and its receive cells. -/
def waitSem : PUnit.{1} ⊕ Key ↪ SemLoc sig := ⟨fun x => csem (waitCk x), fun x y h => by
  have h := csem_injective h
  cases x <;> cases y <;> simp_all [waitCk]⟩

/-- The credit a device is launched with: five at its barrier, one transfer at each receive cell. -/
theorem creds (c : Dev nD) : (Pipeline.launchCred O₀ c : sProp 𝕄)
    ⊢ iprop(cred (tallyAt (barCell c) () 5) ∗ bigSep Finset.univ fun k : Key => cred (tallyAt (recvCell c k) () (N k))) := by
  unfold Pipeline.launchCred
  refine BI.Entails.trans (bigSep_subset (Finset.subset_univ (Finset.univ.map waitSem))) ?_
  have e : ∀ P Q : sProp 𝕄, P = Q → Idealize.SL.BI.Entails P Q := fun P Q h => h ▸ BI.Entails.refl _
  refine e _ _ ?_
  rw [bigSep_map, bigSep_univ_sum, bigSep_univ_of_subsingleton PUnit.unit]
  congr 1
  · exact congrArg cred (launch_at none c 5 owed_bar)
  · exact bigSep_congr fun k _ => congrArg cred (launch_at (some (true, k)) c (N k) (owed_recv k))

/-! ## The launch element -/

/-- The kernel's own semaphores. -/
abbrev osem (x : Bool × Key) : SemLoc sig := csem (some x)

/-- The pipeline's semaphores are numbered below six, -/
theorem stage_no : ∀ (w : Fin 6) (s : Fin (spec0 w).nbuf), ((spec0 w).sem s).val < 6 := by decide
/-- the kernel's own from six, -/
theorem semNo_ge (x : Bool × Key) : 6 ≤ semNo x := by
  obtain ⟨b, k⟩ := x; cases b <;> cases k <;> simp only [semNo] <;> omega
/-- so no cell of the protocol is one of the pipeline's. -/
theorem csem_ne_stage (k : Ck) (w : Fin 6) (s : Fin (spec0 w).nbuf) : csem k ≠ .dma ((spec0 w).sem s) := by
  intro h
  cases k with
  | none => cases h
  | some x =>
    have h1 := congrArg dmaNo h
    rw [dmaNo_csem] at h1
    have h2 := stage_no w s
    have h3 := semNo_ge x
    simp only [dmaNo] at h1
    omega
/-- The pipeline's semaphores have level zero. -/
theorem lv_stage (c : Dev nD) (w : Fin 6) (s : Fin (spec0 w).nbuf) : lv ((c : Thread nD τ), .dma ((spec0 w).sem s)) () = 0 := by
  unfold lv dec Function.partialInv
  rw [dif_neg (fun ⟨k, hk⟩ => csem_ne_stage k w s hk)]; rfl

/-- The kernel's own semaphores are scoped, distinct and none of the pipeline's. -/
theorem ownSemFacts : Pipeline.OwnSemFacts cfg0.spec osem where
  isScoped x := by obtain ⟨b, k⟩ := x; cases b <;> revert k <;> decide
  inj := fun x y h => Option.some.inj (csem_injective h)
  disj := fun x w s => csem_ne_stage (some x) w s

/-- The cells of the protocol. -/
def ringCells : Finset (GSem nD τ sig) := Finset.univ.map ⟨kcell, kcell_injective⟩

/-- A device's own cells' duty tokens as minted: its barrier's five and one for each cell of a transfer. -/
abbrev tokOf (cj : Dev nD × (Fin 5 ⊕ (Bool × Key))) : GSem nD τ sig × ℕ × Fin 5 := match cj.2 with
  | .inl d => (barCell cj.1, 0, d) | .inr x => (kcell (cj.1, some x), 0, 0)
/-- Different duties have different tokens. -/
theorem tokOf_injective : Function.Injective tokOf := by
  rintro ⟨c, j⟩ ⟨c', j'⟩ h
  rcases j with d | x <;> rcases j' with d' | x'
  · have h1 := kcell_injective (a₁ := (c, none)) (a₂ := (c', none)) (congrArg Prod.fst h)
    have h2 : d = d' := congrArg (fun t => t.2.2) h
    have h3 : c = c' := congrArg Prod.fst h1
    rw [h2, h3]
  · have h1 := kcell_injective (a₁ := (c, none)) (a₂ := (c', some x')) (congrArg Prod.fst h)
    exact absurd (congrArg Prod.snd h1) (by simp)
  · have h1 := kcell_injective (a₁ := (c, some x)) (a₂ := (c', none)) (congrArg Prod.fst h)
    exact absurd (congrArg Prod.snd h1) (by simp)
  · have h1 := kcell_injective (a₁ := (c, some x)) (a₂ := (c', some x')) (congrArg Prod.fst h)
    have h3 : c = c' := congrArg Prod.fst h1
    have h4 : x = x' := Option.some.inj (congrArg Prod.snd h1)
    rw [h3, h4]
/-- The tokens of the duties. -/
def ringToks : Finset (GSem nD τ sig × ℕ × Fin 5) := Finset.univ.map ⟨tokOf, tokOf_injective⟩

/-- The ghost state at launch. -/
def u₀ : UU := (initOf (Pipeline.cells cfgs cellOf_inj) (Pipeline.launchToks cfgs cellOf_inj), initOf ringCells ringToks)

/-- The duty tokens of a device's own cells; -/
def toks (c : Dev nD) : sProp 𝕄 :=
  iprop((bigSep Finset.univ fun d : Fin 5 => dutyTok ER (barCell c) 0 d)
    ∗ (bigSep Finset.univ fun k : Key => dutyTok ER (sendCell c k) 0 (0 : Fin 5)) ∗ bigSep Finset.univ fun k : Key => dutyTok ER (recvCell c k) 0 (0 : Fin 5))
/-- of the duties it pays. -/
def payToks (c : Dev nD) : sProp 𝕄 :=
  iprop((bigSep Finset.univ fun d : Fin 5 => dutyTok ER (barCell (peer d c)) 0 d)
    ∗ (bigSep Finset.univ fun k : Key => dutyTok ER (sendCell c k) 0 (0 : Fin 5)) ∗ bigSep Finset.univ fun k : Key => dutyTok ER (recvCell (peer (rnd k) c) k) 0 (0 : Fin 5))

/-- The tokens, sorted by who is owed, are the tokens sorted by who pays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun d : Fin 5 => d) (fun c d => (dutyTok ER (barCell c) 0 d : sProp 𝕄)),
    around rnd (fun c k => (dutyTok ER (recvCell c k) 0 (0 : Fin 5) : sProp 𝕄))]

section Launch
variable (D : Inputs F)

/-- What the launch element deals a device. -/
def G (c : Dev nD) : sProp 𝕄 :=
  iprop((bigSep Finset.univ fun k : Ck => roundState ER (sched D) (kcell (c, k)) 0)
    ∗ (bigSep Finset.univ fun k : Ck => iprop(atPos ER (kcell (c, k)) 0 ∅ 0 ∗ reached ER (kcell (c, k)) 0)) ∗ toks c)

/-- What stays with a device: its positions, and the tokens of the duties it pays. -/
def linear (c : Dev nD) : sProp 𝕄 := iprop((bigSep Finset.univ fun k : Ck => atPos ER (kcell (c, k)) 0 ∅ 0) ∗ payToks c)

/-- What the global step makes of it. -/
def G' (c : Dev nD) : sProp 𝕄 := iprop(∃ K, records D K ∗ linear c)

/-- The ghost state at launch gives every device its part. -/
theorem fund_ring : BI.own (ER (initOf ringCells ringToks)) ⊢ (|==> bigSep Finset.univ (G D) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_dir]; rfl
  iintro HX
  imod (Rounds.fund ER (sched D) ringCells ringToks) $$ HX with ⟨Hst, Hr, Hat, Htok⟩
  imodintro
  ihave Hst' := (Entails.of_eq (hX fun g => roundState ER (sched D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero, direction by direction. -/
theorem ownSems0_eq (c : Dev nD) : (Pipeline.ownSems0 (Ix := Unit) (Name := ℕ) (U := UU) (Lvl := ℕ) (Val := Elt F) (τ := τ) osem c : sProp 𝕄)
    = bigSep Finset.univ fun x : Bool × Key => semVal (kcell (c, some x)) 0 := rfl
/-- The one semaphore outside is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells set up at zero. -/
theorem core_alloc (c : Dev nD) :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k : Ck => iprop(∃ κ : ℕ, cellInv ER (sched D) κ (kcell (c, k))))
          ∗ (bigSep Finset.univ fun k : Ck => iprop(atPos ER (kcell (c, k)) 0 ∅ 0 ∗ reached ER (kcell (c, k)) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) from Entails.of_eq (by rw [bigSep_ck, unscopedSems0_eq]; rfl)) $$ [Hos Hus]
  · isplitl [Hos] <;> iassumption
  imod (show iprop((bigSep Finset.univ fun k : Ck => semVal (kcell (c, k)) 0) ∗ bigSep Finset.univ fun k : Ck => roundState ER (sched D) (kcell (c, k)) 0)
      ⊢ (|={Set.univ}=> bigSep Finset.univ fun k : Ck => iprop(∃ κ : ℕ, cellInv ER (sched D) κ (kcell (c, k))) : sProp 𝕄) from by
        rw [← bigSep_sep']
        exact (bigSep_mono fun k _ => (Rounds.body_intro ER (sched D) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The records and a device's own part are what its body starts from. -/
theorem ghost_intro (K : Dev nD × Ck → ℕ) (c : Dev nD) : iprop(records D K ∗ linear c) ⊢ G' D c := by
  unfold G'; iintro H; iexists K; iexact H

/-- The devices' parts, gathered: the records are shared, the rest is each one's own. -/
theorem regroup :
    (bigSep Finset.univ fun c : Dev nD => iprop((bigSep Finset.univ fun k : Ck => iprop(∃ κ : ℕ, cellInv ER (sched D) κ (kcell (c, k))))
          ∗ (bigSep Finset.univ fun k : Ck => iprop(atPos ER (kcell (c, k)) 0 ∅ 0 ∗ reached ER (kcell (c, k)) 0)) ∗ toks c) : sProp 𝕄)
      ⊢ bigSep Finset.univ (G' D) := by
  rw [bigSep_sep', bigSep_sep', ← bigSep_univ_prod (fun ck : Dev nD × Ck => iprop(∃ κ : ℕ, cellInv ER (sched D) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (sched D) κ (kcell ck) : sProp 𝕄))) $$ HI
  icases HK with ⟨%K, #HI⟩
  ihave Htk := (toks_around (F := F)) $$ Htok
  iapply (BI.bigSep_with_persistent (R := records D K) fun c _ => ghost_intro D K c)
  isplitr
  · unfold records; isplitl; · iexact HI
    iexact HR
  · unfold linear
    iapply (Entails.of_eq (bigSep_sep' Finset.univ (fun c : Dev nD => bigSep Finset.univ fun k : Ck => (atPos ER (kcell (c, k)) 0 ∅ 0 : sProp 𝕄)) payToks).symm)
    isplitl [Hat]; · iexact Hat
    iexact Htk

/-- All the cells of all the devices set up. -/
theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

/-- What a device's body starts from, but for its buffers. -/
def start (c : Dev nD) : sProp 𝕄 := iprop((∃ K, records D K) ∗ levAts L lv ∗ barrierIn c ∗ allRounds (idle c))

/-- All the transfers idle: the tokens of both directions and the positions at the send cells. -/
theorem idle_all (c : Dev nD) : (allRounds (idle c) : sProp 𝕄)
    = iprop((bigSep Finset.univ fun k : Key => dutyTok ER (sendCell c k) 0 (0 : Fin 5)) ∗ (bigSep Finset.univ fun k : Key => dutyTok ER (recvCell (peer (rnd k) c) k) 0 (0 : Fin 5))
      ∗ (bigSep Finset.univ fun k : Key => atPos ER (sendCell c k) 0 ∅ 0) ∗ (bigSep Finset.univ fun k : Key => atPos ER (recvCell c k) 0 ∅ 0)
      ∗ bigSep Finset.univ fun k : Key => cred (tallyAt (recvCell c k) () (N k))) := by
  rw [allRounds_key]
  unfold idle
  rw [bigSep_sep', bigSep_sep', bigSep_sep', bigSep_sep']

/-- A device's positions: at its send cells, its receive cells and its barrier. -/
theorem at_all (c : Dev nD) : (bigSep Finset.univ fun k : Ck => (atPos ER (kcell (c, k)) 0 ∅ 0 : sProp 𝕄))
    = iprop(((bigSep Finset.univ fun k : Key => atPos ER (sendCell c k) 0 ∅ 0) ∗ (bigSep Finset.univ fun k : Key => atPos ER (recvCell c k) 0 ∅ 0)) ∗ atPos ER (barCell c) 0 ∅ 0) := by
  rw [bigSep_ck, bigSep_dir]; rfl

/-- What a body starts from, from the levels, the credit and the ghost part. -/
theorem start_of (c : Dev nD) : iprop(levAts L lv ∗ Pipeline.launchCred O₀ c ∗ G' D c) ⊢ (start D c : sProp 𝕄) := by
  unfold start G' linear payToks barrierIn
  rw [idle_all, at_all, bigSep_fin5]
  iintro ⟨Hlev, Hcr, ⟨%K, HR, ⟨⟨HaS, HaR⟩, HaB⟩, ⟨T0, T1, T2, T3, T4⟩, TS, TR⟩⟩
  ihave Hc := (creds (F := F) c) $$ Hcr
  icases Hc with ⟨HcB, HcR⟩
  isplitl [HR]; · iexists K; iexact HR
  isplitl [Hlev]; · iexact Hlev
  isplitl [HaB HcB T0 T1 T2 T3 T4]
  · isplitl [HaB]; · iexact HaB
    isplitl [HcB]; · iexact HcB
    isplitl [T0]; · iexact T0
    isplitl [T1]; · iexact T1
    isplitl [T2]; · iexact T2
    isplitl [T3]; · iexact T3
    iexact T4
  isplitl [TS]; · iexact TS
  isplitl [TR]; · iexact TR
  isplitl [HaS]; · iexact HaS
  isplitl [HaR]; · iexact HaR
  iexact HcR

/-- After the body: the scratch buffers, and every cell closed. -/
def done (c : Dev nD) : sProp 𝕄 := iprop(scratch c ∗ allRounds (shut c) ∗ semVal (barCell c) 0)

/-- All the transfers shut: the kernel's own semaphores at zero. -/
theorem shut_all (c : Dev nD) : (allRounds (shut c) : sProp 𝕄) = Pipeline.ownSems0 (Ix := Unit) (Name := ℕ) (U := UU) (Lvl := ℕ) (Val := Elt F) (τ := τ) osem c := by
  rw [allRounds_key, ownSems0_eq, bigSep_dir]
  unfold shut
  rw [bigSep_sep']; rfl

end Launch

end Cert.KernelIdealProof
-- ==== Proof.Run.lean ====
/-
# The run

Every weakly fair execution of the kernel on the mesh terminates, at any float values; the five arguments stay, the
result of device `c` is `outAt` of the launch's inputs at `c`, and every semaphore counter is at zero.
-/
module

public import proofs.«01_k».proof.Proof.Launch
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Each device's inputs, as launched. -/
def ins : Inputs F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  k c := (win0_3.blk (0 : Fin 1)).view.read (Elt F) (m ((c : Thread nD τ).loc main_arg2))
  v c := (win0_4.blk (0 : Fin 1)).view.read (Elt F) (m ((c : Thread nD τ).loc main_arg3))

/-- What the pipeline's one point holds and moves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).wq c
    | ⟨2, _⟩ => (ins m).wo c
    | ⟨3, _⟩ => (ins m).k c
    | ⟨4, _⟩ => (ins m).v c
    | ⟨5, _⟩ => outAt (ins m) c
  Φ t := match t with
    | ⟨0, _⟩ => iprop(start (ins m) c ∗ scratch c)
    | ⟨_ + 1, _⟩ => done c
  q _ := fullShare
  owed t := match t with
    | ⟨0, _⟩ => O₀ c
    | ⟨_ + 1, _⟩ => 0

/-- Owning a whole buffer through its view is owning the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 100000 in
/-- What the body is entered with. -/
def bodyPre (c : Dev nD) : sProp 𝕄 :=
  iprop((start (ins m) c ∗ scratch c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 100000 in
/-- What it leaves. -/
def bodyPost (c : Dev nD) : sProp 𝕄 :=
  iprop(done c ∗ (dats m ρ 0 c).owesAt () t0_0.succ ∗ stg c cc0_stg0_0 ((ins m).x c) ∗ stg c cc0_stg1_0 ((ins m).wq c)
    ∗ stg c cc0_stg2_0 ((ins m).wo c) ∗ stg c cc0_stg3_0 ((ins m).k c) ∗ stg c cc0_stg4_0 ((ins m).v c) ∗ stg c cc0_stg5_0 (outAt (ins m) c))

/-- Before the body window 0 holds what was fetched: `x`; -/
theorem before_0 (c : Dev nD) (d) : (dats m ρ 0 c).before (0 : Fin 6) t0_0 d = (dats m ρ 0 c).after (0 : Fin 6) t0_0 := by
  unfold Dat.before; rw [if_pos (fetch0_0 t0_0)]; rfl
/-- window 1 `Wq`; -/
theorem before_1 (c : Dev nD) (d) : (dats m ρ 0 c).before (1 : Fin 6) t0_0 d = (dats m ρ 0 c).after (1 : Fin 6) t0_0 := by
  unfold Dat.before; rw [if_pos (fetch0_1 t0_0)]; rfl
/-- window 2 `Wo`; -/
theorem before_2 (c : Dev nD) (d) : (dats m ρ 0 c).before (2 : Fin 6) t0_0 d = (dats m ρ 0 c).after (2 : Fin 6) t0_0 := by
  unfold Dat.before; rw [if_pos (fetch0_2 t0_0)]; rfl
/-- window 3 the keys; -/
theorem before_3 (c : Dev nD) (d) : (dats m ρ 0 c).before (3 : Fin 6) t0_0 d = (dats m ρ 0 c).after (3 : Fin 6) t0_0 := by
  unfold Dat.before; rw [if_pos (fetch0_3 t0_0)]; rfl
/-- window 4 the values. -/
theorem before_4 (c : Dev nD) (d) : (dats m ρ 0 c).before (4 : Fin 6) t0_0 d = (dats m ρ 0 c).after (4 : Fin 6) t0_0 := by
  unfold Dat.before; rw [if_pos (fetch0_4 t0_0)]; rfl

/-- A staging buffer is a buffer held whole, -/
theorem stg_full (c : Dev nD) (b : Ref sig .tc) (X : b.ty.Contents (Elt F)) : (stg c b X : sProp 𝕄) ⊢ (((c : Thread nD τ).loc b) ↦{fullShare} X) := by
  iintro ⟨%f, %hf, H⟩; subst hf; iexact H
/-- and the other way round. -/
theorem full_stg (c : Dev nD) (b : Ref sig .tc) (X : b.ty.Contents (Elt F)) : (((c : Thread nD τ).loc b) ↦{fullShare} X : sProp 𝕄) ⊢ stg c b X := by
  iintro H; iexists X; isplitr
  · ipureintro; rfl
  iexact H

set_option maxHeartbeats 1000000 in
/-- The body, from what it is entered with to what it leaves. -/
theorem sound_body (c : Dev nD) : bodyPre m ρ c ⊢ wpB c prog (fun _ => bodyPost m ρ c) := by
  unfold bodyPre start
  iintro ⟨⟨⟨⟨%K, HR⟩, Hlev, HB, HI⟩, Hscr⟩, Ho, ⟨%d0, H0⟩, ⟨%d1, H1⟩, ⟨%d2, H2⟩, ⟨%d3, H3⟩, ⟨%d4, H4⟩, ⟨%d5, %g5, %hg5, H5⟩⟩
  unfold Dat.owesAt Pipeline.owesWithin
  icases Ho with ⟨%W, %hW, HO⟩
  ihave HO := (Entails.of_eq (show owes (c : Thread nD τ) ((dats m ρ 0 c).owed t0_0.castSucc) W = (owes (c : Thread nD τ) (owedL c allDues) W : sProp 𝕄) from rfl)) $$ HO
  ihave H0 := (Entails.of_eq (congrArg (stg c cc0_stg0_0) (before_0 m ρ c d0))) $$ H0
  ihave H1 := (Entails.of_eq (congrArg (stg c cc0_stg1_0) (before_1 m ρ c d1))) $$ H1
  ihave H2 := (Entails.of_eq (congrArg (stg c cc0_stg2_0) (before_2 m ρ c d2))) $$ H2
  ihave H3 := (Entails.of_eq (congrArg (stg c cc0_stg3_0) (before_3 m ρ c d3))) $$ H3
  ihave H4 := (Entails.of_eq (congrArg (stg c cc0_stg4_0) (before_4 m ρ c d4))) $$ H4
  iapply (wp_prog (ins m) K c (fun _ => bodyPost m ρ c)) $$ [HR Hlev HB HI Hscr HO H0 H1 H2 H3 H4 H5]
  · unfold bodyIn inputs
    isplitl [HR]; · iexact HR
    isplitl [Hlev]; · iexact Hlev
    isplitl [HB]; · iexact HB
    isplitl [HI]; · iexact HI
    isplitl [HO]; · unfold owesL; iexists W; iexact HO
    isplitl [H0 H1 H2 H3 H4]
    · isplitl [H0]; · iapply (stg_full c cc0_stg0_0 _); iexact H0
      isplitl [H1]; · iapply (stg_full c cc0_stg1_0 _); iexact H1
      isplitl [H2]; · iapply (stg_full c cc0_stg2_0 _); iexact H2
      isplitl [H3]; · iapply (stg_full c cc0_stg3_0 _); iexact H3
      iapply (stg_full c cc0_stg4_0 _); iexact H4
    isplitl [H5]; · iexists g5; iexact H5
    iexact Hscr
  unfold bodyOut inputs owesL
  iintro ⟨HZ, HzB, ⟨%W', HO⟩, ⟨H0, H1, H2, H3, H4⟩, H5, Hscr⟩
  unfold bodyPost done Dat.owesAt Pipeline.owesWithin
  isplitl [HZ HzB Hscr]
  · isplitl [Hscr]; · iexact Hscr
    isplitl [HZ]; · iexact HZ
    iexact HzB
  isplitl [HO]
  · iexists W'
    isplitr; · ipureintro; exact fun _ _ => Or.inl trivial
    iexact HO
  isplitl [H0]; · iapply (full_stg c cc0_stg0_0 _); iexact H0
  isplitl [H1]; · iapply (full_stg c cc0_stg1_0 _); iexact H1
  isplitl [H2]; · iapply (full_stg c cc0_stg2_0 _); iexact H2
  isplitl [H3]; · iapply (full_stg c cc0_stg3_0 _); iexact H3
  isplitl [H4]; · iapply (full_stg c cc0_stg4_0 _); iexact H4
  iapply (full_stg c cc0_stg5_0 _); iexact H5

set_option maxRecDepth 100000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpB c (cc0_body (F := F) xM (Memref.isWhole_whole _) wqM (Memref.isWhole_whole _) woM (Memref.isWhole_whole _) kM (Memref.isWhole_whole _)
    vM (Memref.isWhole_whole _) outM (Memref.isWhole_whole _) accO accO_whole accML accML_whole rcvO rcvO_whole rcvML (Memref.isWhole_whole _)
    attM (Memref.isWhole_whole _) cc0_scratch5 cc0_scratch6 cc0_scratch7 cc0_scratch8) (fun _ => bodyPost m ρ c)
  rw [body_eq]
  exact sound_body m ρ c

/-- Every window is held whole. -/
theorem share_eq (c : Dev nD) (w : Fin cfg0.W) : (dats m ρ 0 c).share w = fullShare := by unfold Dat.share; split <;> rfl

/-- What the launch hands over is what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start (ins m) c ∗ emp) := by
  iintro ⟨-, Hlev, Hcr, -, HG⟩
  imodintro
  isplitl
  · iapply (start_of (ins m) c)
    isplitl [Hlev]; · iexact Hlev
    isplitl [Hcr]; · iexact Hcr
    iexact HG
  · iempintro

/-- The scoped buffers outside the pipeline are the scratch. -/
theorem scratch_rest (c : Dev nD) : (Pipeline.scopedRest cfg0.spec c : sProp 𝕄) = scratch c := scopedRest0_eq c

/-- The state before the one point. -/
theorem phi0_intro (c : Dev nD) :
    iprop(start (ins m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (ins m) c ∗ scratch c) from rfl, scratch_rest]
  iintro ⟨Hs, -, Hr⟩
  isplitl [Hs]; · iexact Hs
  iexact Hr

/-- The state after it gives back the semaphores at zero and the scratch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from rfl, scratch_rest, unscopedSems0_eq]
  unfold done
  rw [shut_all]
  iintro ⟨Hr, HZ, HzB⟩
  isplitl [HzB]; · iexact HzB
  isplitl [HZ]; · iexact HZ
  iexact Hr

/-- The pipeline's own waits are in order. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ allDues 0 (lv_stage c w s) (by decide)
    · exact mayWait c _ [] 0 (lv_stage c w s) (fun x hx => absurd hx List.not_mem_nil)

/-- A window's array at the end. -/
def finalA (c : Dev nD) (w : Fin cfg0.W) : Buf (Elt F) ((cfg0.win w).arr.view.loc (c : Thread nD τ)) := (dats m ρ 0 c).arrAt w cfg0.N

set_option maxRecDepth 100000 in
/-- The run: every window's array ends as computed, every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_ring (ins m)) $$ HX with HG
      imodintro
      isplitl [HP] <;> iassumption)
    (hglob := glob (ins m))
    (hA := fun _ _ => rfl) (hpf := fun _ k => k.elim0)
    (X := start (ins m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments stay as launched. -/
theorem args_stay {r : PUnit × MemSt nD τ sig (Elt F)} (h : ∀ c : Dev nD, ∀ w : Fin cfg0.W, r.2.mem ((cfg0.win w).arr.view.loc (c : Thread nD τ)) = finalA m ρ c w) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans ((dats (F := F) m ρ 0 c).arrAt_in (0 : Fin 6) rfl _),
   (h c (1 : Fin 6)).trans ((dats (F := F) m ρ 0 c).arrAt_in (1 : Fin 6) rfl _),
   (h c (3 : Fin 6)).trans ((dats (F := F) m ρ 0 c).arrAt_in (3 : Fin 6) rfl _),
   (h c (4 : Fin 6)).trans ((dats (F := F) m ρ 0 c).arrAt_in (4 : Fin 6) rfl _),
   (h c (2 : Fin 6)).trans ((dats (F := F) m ρ 0 c).arrAt_in (2 : Fin 6) rfl _)⟩

end Cert.KernelIdealProof
-- ==== Proof.Frames.lean ====
/-
# The frames

The printed kernel and the idealized one have the same text, so both frames are the one run at their float values.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.Value

@[expose] public section

noncomputable section

namespace Cert.KernelIdealProof

open Idealize.ShloMosaic
open Idealize.ShloMosaic.TcCoe
open Idealize.SL.Sem

/-- The idealized kernel ends with its arguments as launched and every counter at zero. -/
theorem frame_ideal : Cert.quiescent_KernelIdeal := fun m ρ _ =>
  (θ_run Cert.KernelIdeal.defs _ _).mono (fun _ h => ⟨fun c => args_stay m ρ h.1 c, h.2⟩) (run_main (F := Ideal) m ρ)

section Same

variable {F : FTy → Type} [FloatOps F]

set_option maxRecDepth 100000 in
/-- The two programs' body tables are the same. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl

/-- The two programs' bodies are the same, the pipeline's included. -/
theorem defs_same : Cert.Kernel.defs (F := F) = Cert.KernelIdeal.defs (F := F) :=
  congrArg (Pipeline.defs Cert.KernelIdeal.pcfgs) defs₀_same

end Same

/-- The kernel as printed ends with its arguments as launched and every counter at zero. -/
theorem frame_kernel : Cert.quiescent_Kernel := by
  intro m ρ _
  rw [defs_same]
  exact (θ_run Cert.KernelIdeal.defs _ _).mono (fun _ h => ⟨fun c => args_stay m ρ h.1 c, h.2⟩) (run_main (F := Bits) m ρ)

/-- The reference ends with its arguments as launched; it has no semaphores. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

section Final

open Cert.KernelIdeal Cert.KernelIdeal.Gen

variable {F : FTy → Type} [FloatOps F] (m : (ℓ : Loc nD τ sig) → Buf (Elt F) ℓ) (ρ : Dev nD → PrngReg)

/-- A window over a whole array covers it index for index. -/
theorem emb_out (i : S2x128x512.Idx) : (win0_5.blk (0 : Fin 1)).view.emb i = i := by
  funext a
  refine Fin.ext ?_
  exact Pipeline.Window.rect_emb_val_of_index_zero win0_5 (0 : Fin 1) a (by revert a; decide) i

/-- The result's array at the end is `outAt` of the inputs as launched. -/
theorem final_out (c : Dev nD) : finalA m ρ c (5 : Fin 6) = outAt (ins m) c := by
  funext i
  have h := (dats m ρ 0 c).arrAt_emb_eq_flushed (5 : Fin 6) (fun t t' _ _ hne => absurd ((fin_N0 t).trans (fin_N0 t').symm) hne) t0_0 (flush0_5 t0_0) i
  exact (congrArg (finalA m ρ c (5 : Fin 6)) (emb_out i)).symm.trans h

/-- The inputs of the run are the arguments as launched: `x`, -/
theorem ins_x (c : Dev nD) : (ins m).x c = m ((c.tc : Thread nD τ).loc main_arg0) := by
  funext i
  refine congrArg (m ((c.tc : Thread nD τ).loc main_arg0)) (funext fun a => Fin.ext ?_)
  exact Pipeline.Window.rect_emb_val_of_index_zero win0_0 (0 : Fin 1) a (by revert a; decide) i
/-- `Wq`, -/
theorem ins_wq (c : Dev nD) : (ins m).wq c = m ((c.tc : Thread nD τ).loc main_arg1) := by
  funext i
  refine congrArg (m ((c.tc : Thread nD τ).loc main_arg1)) (funext fun a => Fin.ext ?_)
  exact Pipeline.Window.rect_emb_val_of_index_zero win0_1 (0 : Fin 1) a (by revert a; decide) i
/-- `Wo`, -/
theorem ins_wo (c : Dev nD) : (ins m).wo c = m ((c.tc : Thread nD τ).loc main_arg4) := by
  funext i
  refine congrArg (m ((c.tc : Thread nD τ).loc main_arg4)) (funext fun a => Fin.ext ?_)
  exact Pipeline.Window.rect_emb_val_of_index_zero win0_2 (0 : Fin 1) a (by revert a; decide) i
/-- the keys -/
theorem ins_k (c : Dev nD) : (ins m).k c = m ((c.tc : Thread nD τ).loc main_arg2) := by
  funext i
  refine congrArg (m ((c.tc : Thread nD τ).loc main_arg2)) (funext fun a => Fin.ext ?_)
  exact Pipeline.Window.rect_emb_val_of_index_zero win0_3 (0 : Fin 1) a (by revert a; decide) i
/-- and the values. -/
theorem ins_v (c : Dev nD) : (ins m).v c = m ((c.tc : Thread nD τ).loc main_arg3) := by
  funext i
  refine congrArg (m ((c.tc : Thread nD τ).loc main_arg3)) (funext fun a => Fin.ext ?_)
  exact Pipeline.Window.rect_emb_val_of_index_zero win0_4 (0 : Fin 1) a (by revert a; decide) i

end Final

end Cert.KernelIdealProof
-- ==== Proof.Softmax.lean ====
/-
# Softmax sums over sets of keys

A softmax-weighted sum over a set of keys, kept as the maximum `M` of the scores, the sum `L` of `exp (s j - M)` and the
sum `O` of `exp (s j - M) * v j`, over the extended reals. Two such states over disjoint sets merge into the state of
the union: each is rescaled by the exponential of its maximum minus the common one. No score need be finite.
-/
module

public import Idealize.ShloMosaic.Lib.Pointwise

@[expose] public section

noncomputable section

namespace Cert.Softmax

open Idealize.ShloMosaic
open scoped BigOperators

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- An exponential of a difference that is not positive is finite. -/
theorem exp_sub_ne_top {a b : EReal} (h : a ≤ b) : Ideal.exp (a - b) ≠ ⊤ := by
  induction a using EReal.rec with
  | bot => simp
  | top => obtain rfl := top_le_iff.mp h; simp
  | coe r =>
    induction b using EReal.rec with
    | bot => simp at h
    | top => simp
    | coe t => rw [← EReal.coe_sub, Ideal.exp_coe]; exact EReal.coe_ne_top _

/-- Rescaling from one maximum to a larger one. -/
theorem exp_sub_mul {s a b : EReal} (h : s ≤ a) (h' : a ≤ b) : Ideal.exp (s - a) * Ideal.exp (a - b) = Ideal.exp (s - b) := by
  induction s using EReal.rec with
  | bot => simp
  | top => obtain rfl := top_le_iff.mp h; obtain rfl := top_le_iff.mp h'; simp
  | coe r =>
    induction a using EReal.rec with
    | bot => simp at h
    | top => obtain rfl := top_le_iff.mp h'; simp
    | coe t =>
      induction b using EReal.rec with
      | bot => simp at h'
      | top => simp
      | coe u =>
        rw [← EReal.coe_sub, ← EReal.coe_sub, ← EReal.coe_sub, Ideal.exp_coe, Ideal.exp_coe, Ideal.exp_coe, ← EReal.coe_mul, ← Real.exp_add]
        congr 2; ring

/-- A nonnegative finite factor goes into a sum. -/
theorem sum_mul {ι : Type} (S : Finset ι) (f : ι → EReal) (c : EReal) (h0 : 0 ≤ c) (ht : c ≠ ⊤) : (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 ht, ih]

variable {ι : Type} [DecidableEq ι]

/-- The state of a set `S` of keys with scores `s` and values `v`. -/
structure IsAcc (s v : ι → EReal) (S : Finset ι) (M L O : EReal) : Prop where
  max : M = S.sup s
  sum : L = ∑ j ∈ S, Ideal.exp (s j - M)
  out : O = ∑ j ∈ S, Ideal.exp (s j - M) * v j

/-- The state of no keys. -/
theorem IsAcc.empty (s v : ι → EReal) : IsAcc s v ∅ ⊥ 0 0 := ⟨by simp, by simp, by simp⟩

/-- A weighted sum rescaled to a larger maximum. -/
theorem rescale (s v : ι → EReal) (S : Finset ι) {M M' : EReal} (hM : ∀ j ∈ S, s j ≤ M) (h : M ≤ M') :
    (∑ j ∈ S, Ideal.exp (s j - M) * v j) * Ideal.exp (M - M') = ∑ j ∈ S, Ideal.exp (s j - M') * v j := by
  rw [sum_mul _ _ _ (exp_nonneg _) (exp_sub_ne_top h)]
  refine Finset.sum_congr rfl fun j hj => ?_
  rw [mul_right_comm, exp_sub_mul (hM j hj) h]

/-- A sum of weights rescaled to a larger maximum. -/
theorem rescale_one (s : ι → EReal) (S : Finset ι) {M M' : EReal} (hM : ∀ j ∈ S, s j ≤ M) (h : M ≤ M') :
    (∑ j ∈ S, Ideal.exp (s j - M)) * Ideal.exp (M - M') = ∑ j ∈ S, Ideal.exp (s j - M') := by
  have e := rescale s (fun _ => 1) S hM h
  simpa only [mul_one] using e

/-- The state of a set is unique. -/
theorem IsAcc.unique {s v : ι → EReal} {S : Finset ι} {M L O M' L' O' : EReal} (h : IsAcc s v S M L O) (h' : IsAcc s v S M' L' O') :
    L = L' ∧ O = O' := by
  have hm : M = M' := h.max.trans h'.max.symm
  subst hm
  exact ⟨h.sum.trans h'.sum.symm, h.out.trans h'.out.symm⟩

/-- No score of the set exceeds its maximum. -/
theorem IsAcc.le {s v : ι → EReal} {S : Finset ι} {M L O : EReal} (h : IsAcc s v S M L O) : ∀ j ∈ S, s j ≤ M := fun j hj => by
  rw [h.max]; exact Finset.le_sup hj

/-- The merge of the states of two disjoint sets. -/
theorem IsAcc.merge {s v : ι → EReal} {S T : Finset ι} {M L O M' L' O' : EReal} (h : IsAcc s v S M L O) (h' : IsAcc s v T M' L' O') (hd : Disjoint S T) :
    IsAcc s v (S ∪ T) (Max.max M M') (L * Ideal.exp (M - Max.max M M') + L' * Ideal.exp (M' - Max.max M M'))
      (O * Ideal.exp (M - Max.max M M') + O' * Ideal.exp (M' - Max.max M M')) where
  max := by rw [Finset.sup_union, ← h.max, ← h'.max]
  sum := by
    rw [Finset.sum_union hd]
    conv_lhs => rw [h.sum, h'.sum, rescale_one s S h.le (le_max_left _ _), rescale_one s T h'.le (le_max_right _ _)]
  out := by
    rw [Finset.sum_union hd]
    conv_lhs => rw [h.out, h'.out, rescale s v S h.le (le_max_left _ _), rescale s v T h'.le (le_max_right _ _)]

/-- A state taken on by a disjoint set whose own sums are already taken at the common maximum. -/
theorem IsAcc.extend {s v : ι → EReal} {S T : Finset ι} {M L O : EReal} (h : IsAcc s v S M L O) (hd : Disjoint S T) {M' : EReal} (hM' : M' = Max.max M (T.sup s)) :
    IsAcc s v (S ∪ T) M' (L * Ideal.exp (M - M') + ∑ j ∈ T, Ideal.exp (s j - M'))
      (O * Ideal.exp (M - M') + ∑ j ∈ T, v j * Ideal.exp (s j - M')) where
  max := by rw [Finset.sup_union, ← h.max, hM']
  sum := by
    rw [Finset.sum_union hd]
    conv_lhs => rw [h.sum, rescale_one s S h.le (hM' ▸ le_max_left _ _)]
  out := by
    rw [Finset.sum_union hd]
    conv_lhs => rw [h.out, rescale s v S h.le (hM' ▸ le_max_left _ _)]
    congr 1
    exact Finset.sum_congr rfl fun j _ => mul_comm _ _

/-- The state of one run of keys, embedded by `e`. -/
theorem IsAcc.of_map {κ : Type} [Fintype κ] (s v : ι → EReal) (e : κ ↪ ι) {M : EReal} (hM : M = Finset.univ.sup fun t => s (e t)) :
    IsAcc s v (Finset.univ.map e) M (∑ t, Ideal.exp (s (e t) - M)) (∑ t, Ideal.exp (s (e t) - M) * v (e t)) where
  max := by rw [Finset.sup_map, hM]; rfl
  sum := by rw [Finset.sum_map]
  out := by rw [Finset.sum_map]

end Cert.Softmax

end
-- ==== Proof.Attention.lean ====
/-
# The attention, in plain terms

The queries, the scores and the result as functions of whole arrays, which both programs are shown to compute.
-/
module

public import proofs.«01_k».proof.Proof.Softmax

@[expose] public section

noncomputable section

namespace Cert.Attention

open Idealize.ShloMosaic Cert.Softmax

/-- The five arguments, whole. -/
structure Args where
  x : Fin 2 → Fin 128 → Fin 512 → EReal
  wq : Fin 512 → Fin 512 → EReal
  k : Fin 2 → Fin 4096 → Fin 8 → Fin 64 → EReal
  v : Fin 2 → Fin 4096 → Fin 8 → Fin 64 → EReal
  wo : Fin 512 → Fin 512 → EReal

/-- The column of component `d` of head `h`. -/
def col (h : Fin 8) (d : Fin 64) : Fin 512 := ⟨64 * h.val + d.val, by omega⟩
/-- The head of a column, and its component. -/
def hd (e : Fin 512) : Fin 8 := ⟨e.val / 64, by omega⟩
/-- The component of a column. -/
def cp (e : Fin 512) : Fin 64 := ⟨e.val % 64, by omega⟩

/-- The score scale of both programs. -/
abbrev scale : EReal := Ideal.ofBits .f32 0x3E000000#32

variable (A : Args) (b : Fin 2) (h : Fin 8) (i : Fin 128)

/-- The queries, and the scores of a query against the keys of its head. -/
def query (n : Fin 512) : EReal := ∑ e, A.x b i e * A.wq e n
/-- The score of a key: the query times the key, scaled. -/
def score (j : Fin 4096) : EReal := (∑ d, query A b i (col h d) * A.k b j h d) * scale
/-- Component `d` of the values of a head. -/
def val (d : Fin 64) (j : Fin 4096) : EReal := A.v b j h d

/-- The largest score, the sum of the weights, and the weighted sum of the values. -/
def top : EReal := Finset.univ.sup (score A b h i)
/-- The sum of the weights. -/
def total : EReal := ∑ j, Ideal.exp (score A b h i j - top A b h i)
/-- The weighted sum of the values. -/
def weighted (d : Fin 64) : EReal := ∑ j, Ideal.exp (score A b h i j - top A b h i) * val A b h d j

/-- The attention, and the result. -/
def att (e : Fin 512) : EReal := Ideal.div (weighted A b (hd e) i (cp e)) (total A b (hd e) i)
/-- The result: the attention times the last matrix. -/
def result (n : Fin 512) : EReal := ∑ e, att A b i e * A.wo e n

/-- Whatever state of all the keys a program arrives at, its sums are those of the attention. -/
theorem of_acc {d : Fin 64} {M L O : EReal} (acc : IsAcc (score A b h i) (val A b h d) Finset.univ M L O) :
    L = total A b h i ∧ O = weighted A b h i d :=
  acc.unique ⟨rfl, rfl, rfl⟩

/-- The word of minus infinity. -/
theorem neg_inf : Ideal.ofBits .f32 0xFF800000#32 = ⊥ := by simp [Ideal.ofBits, Ideal.ieee]

/-- A maximum folded from minus infinity is the least upper bound. -/
theorem fold_max {κ : Type} [Fintype κ] (f : κ → EReal) :
    Finset.univ.fold max (Ideal.ofBits .f32 0xFF800000#32) f = Finset.univ.sup f := by
  rw [neg_inf]; rfl

end Cert.Attention

end
-- ==== Proof.KernelValue.lean ====
/-
# What the kernel computes

At exact arithmetic: a device's local partials are the state of its own 128 keys, a merge joins the states of two disjoint
sets of keys, and after five rounds every device holds the state of all 4096.
-/
module

public import proofs.«01_k».proof.Proof.Spec
public import proofs.«01_k».proof.Proof.Attention
public import Idealize.ShloMosaic.Lib.Pointwise

@[expose] public section

set_option maxRecDepth 16384

noncomputable section

namespace Cert.KernelIdealProof

open Cert.KernelIdeal Cert.KernelIdeal.Gen Cert.Softmax Cert.Attention
open Idealize.ShloMosaic

/-- Key `t` of device `c`, among all the keys. -/
def key (c : Dev nD) : Fin 128 ↪ Fin 4096 :=
  ⟨fun t => ⟨128 * c.val + t.val, by have : c.val < 32 := c.isLt; omega⟩, fun a b e => by
    have := congrArg Fin.val e; simp only at this; exact Fin.ext (by omega)⟩

/-- The devices' inputs are their parts of the whole arguments. -/
structure Parts (D : Inputs Ideal) (A : Args) : Prop where
  x : ∀ c b i e, D.x c (ix3 b i e) = A.x b i e
  wq : ∀ c e n, D.wq c (ix2 e n) = A.wq e n
  wo : ∀ c e n, D.wo c (ix2 e n) = A.wo e n
  k : ∀ c b t h d, D.k c (ix4 b t h d) = A.k b (key c t) h d
  v : ∀ c b t h d, D.v c (ix4 b t h d) = A.v b (key c t) h d

/-! ## One device's keys -/

section Local
variable {D : Inputs Ideal} {A : Args} (hP : Parts D A) (c : Dev nD) (b : Fin 2) (h : Fin 8) (i : Fin 128)

/-- The rows of `x` flattened to one axis. -/
theorem pay_apply (x : Vec Ideal S2x128x512 .f32) (e : Fin 512) :
    k0_pay4 x (ix2 ⟨128 * b.val + i.val, by omega⟩ e) = x (ix3 b i e) := by
  pointwise [k0_pay4]

/-- The loads of the inputs, by index. -/
theorem xAt_apply (e : Fin 512) : xAt D c (ix3 b i e) = D.x c (ix3 b i e) := by pointwise [xAt]
/-- `Wq`, by index. -/
theorem wqAt_apply (e n : Fin 512) : wqAt D c (ix2 e n) = D.wq c (ix2 e n) := by pointwise [wqAt]
/-- `Wo`, by index. -/
theorem woAt_apply (e n : Fin 512) : woAt D c (ix2 e n) = D.wo c (ix2 e n) := by pointwise [woAt]
/-- A head's keys, by index. -/
theorem kAt_apply (t : Fin 128) (d : Fin 64) : kAt D c b h (ix4 0 t 0 d) = D.k c (ix4 b t h d) := by pointwise [kAt]
/-- A head's values, by index. -/
theorem vAt_apply (t : Fin 128) (d : Fin 64) : vAt D c b h (ix4 0 t 0 d) = D.v c (ix4 b t h d) := by pointwise [vAt]

include hP in
/-- The scores of the device's own keys. -/
theorem scores_apply (t : Fin 128) : scores h (qAt D c b) (kAt D c b h) (ix2 i t) = score A b h i (key c t) := by
  unfold qAt
  pointwise [scores, qRows]
  simp only [pay_apply, xAt_apply, wqAt_apply, kAt_apply, hP.x, hP.wq, hP.k]
  rfl

/-- What a head computes: the maximum of a row of scores, -/
theorem headM_apply (q : FVec Ideal S128x512 .f32) (k : Vec Ideal S1x128x1x64 .f32) :
    headM h q k (ix3 0 0 i) = Finset.univ.sup fun t => (scores h q k (ix2 i t) : EReal) := by
  pointwise [headM, rowMax]
  exact fold_max _
/-- the sum of its weights, -/
theorem headL_apply (q : FVec Ideal S128x512 .f32) (k : Vec Ideal S1x128x1x64 .f32) :
    headL h q k (ix3 0 0 i) = ∑ t, Ideal.exp ((scores h q k (ix2 i t) : EReal) - Finset.univ.sup fun t => (scores h q k (ix2 i t) : EReal)) := by
  pointwise [headL, probs, rowMax]
  rw [fold_max]
/-- and the weighted sum of the values. -/
theorem headO_apply (q : FVec Ideal S128x512 .f32) (k v : Vec Ideal S1x128x1x64 .f32) (d : Fin 64) :
    headO h q k v (ix3 0 i d) =
      ∑ t, Ideal.exp ((scores h q k (ix2 i t) : EReal) - Finset.univ.sup fun t => (scores h q k (ix2 i t) : EReal)) * v (ix4 0 t 0 d) := by
  pointwise [headO, probs, rowMax]
  rw [fold_max]

include hP in
/-- A head's partials are the state of the device's own keys. -/
theorem head_acc (d : Fin 64) :
    IsAcc (score A b h i) (val A b h d) (Finset.univ.map (key c)) (headM h (qAt D c b) (kAt D c b h) (ix3 0 0 i))
      (headL h (qAt D c b) (kAt D c b h) (ix3 0 0 i)) (headO h (qAt D c b) (kAt D c b h) (vAt D c b h) (ix3 0 i d)) := by
  rw [headM_apply, headL_apply, headO_apply]
  simp only [scores_apply hP, vAt_apply, hP.v]
  exact IsAcc.of_map _ _ (key c) rfl

end Local

/-! ## One merge -/

section Merge
variable (a b : St Ideal) (n : Fin 16) (i : Fin 128)

/-- The larger of the two maxima. -/
abbrev mx : EReal := max (a.ml (ix3 0 n i) : EReal) (b.ml (ix3 0 n i))

/-- The factors of the two states, and the sum. -/
theorem stA_apply : stA a b (ix2 n i) = Ideal.exp (a.ml (ix3 0 n i) - mx a b n i) := by
  pointwise [stA, facA, newM, planeA, planeB]
/-- The factor of the partner's state. -/
theorem stB_apply : stB a b (ix2 n i) = Ideal.exp (b.ml (ix3 0 n i) - mx a b n i) := by
  pointwise [stB, facB, newM, planeA, planeB]
/-- The merged sum. -/
theorem stL_apply : stL a b (ix2 n i) =
    a.ml (ix3 1 n i) * Ideal.exp (a.ml (ix3 0 n i) - mx a b n i) + b.ml (ix3 1 n i) * Ideal.exp (b.ml (ix3 0 n i) - mx a b n i) := by
  pointwise [stL, newL, facA, facB, newM, planeA, planeB]

/-- A row of a merged chunk. -/
theorem merged_apply (s t : Fin 4) (d : Fin 64) :
    merged s (stA a b) (stB a b) (chunkA a s) (chunkB b s) (ix3 t i d) =
      a.o (ix3 (rowOf s t) i d) * Ideal.exp (a.ml (ix3 0 (rowOf s t) i) - mx a b (rowOf s t) i)
        + b.o (ix3 (rowOf s t) i d) * Ideal.exp (b.ml (ix3 0 (rowOf s t) i) - mx a b (rowOf s t) i) := by
  rw [← stA_apply, ← stB_apply]
  pointwise [merged, spread, chunkA, chunkB]
  rfl

/-- The state after a merge, by row: its maximum, -/
theorem step_max : (step a b).ml (ix3 0 n i) = mx a b n i := by
  show (shapeCast S1x16x128 (newM (planeA a 0) (planeB b 0)) shapeCasts_S16x128_S1x16x128 : FVec Ideal S1x16x128 .f32) (ix3 0 n i) = _
  pointwise [newM, planeA, planeB]
/-- its sum, -/
theorem step_sum : (step a b).ml (ix3 1 n i) = stL a b (ix2 n i) := by
  show (shapeCast S1x16x128 (stL a b) shapeCasts_S16x128_S1x16x128 : FVec Ideal S1x16x128 .f32) (ix3 0 n i) = _
  pointwise
/-- and its partial output. -/
theorem step_out (d : Fin 64) : (step a b).o (ix3 n i d) = merged (sOf n) (stA a b) (stB a b) (chunkA a (sOf n)) (chunkB b (sOf n)) (ix3 (tOf n) i d) := by
  show mergedT _ _ _ _ _ (ix3 (tOf n) i d) = _
  pointwise [mergedT]

/-- A row is the row of its chunk at its place there. -/
theorem rowOf_sOf : rowOf (sOf n) (tOf n) = n := Fin.ext (by simp only [rowOf, sOf, tOf]; omega)

/-- A merge of the states of two disjoint sets of keys is the state of their union. -/
theorem step_acc {s v : Fin 4096 → EReal} {S T : Finset (Fin 4096)} {d : Fin 64} (hST : Disjoint S T)
    (ha : IsAcc s v S (a.ml (ix3 0 n i)) (a.ml (ix3 1 n i)) (a.o (ix3 n i d))) (hb : IsAcc s v T (b.ml (ix3 0 n i)) (b.ml (ix3 1 n i)) (b.o (ix3 n i d))) :
    IsAcc s v (S ∪ T) ((step a b).ml (ix3 0 n i)) ((step a b).ml (ix3 1 n i)) ((step a b).o (ix3 n i d)) := by
  rw [step_max, step_sum, stL_apply, step_out, merged_apply, rowOf_sOf]
  exact ha.merge hb hST

end Merge

/-! ## Five rounds -/

/-- The keys a device has taken in after `r` rounds: those of the devices whose numbers agree with its own from bit `r` up. -/
def owned (r : ℕ) (c : Dev nD) : Finset (Fin 4096) := Finset.univ.filter fun j => j.val / 128 / 2 ^ r = c.val / 2 ^ r

/-- A device agrees with `c` from bit `r + 1` up when from bit `r` up it agrees with `c` or, which excludes it, with `c`'s partner. -/
theorem agree (r : Fin 5) (c : Dev nD) (y : Fin 32) :
    (y.val / 2 ^ (r.val + 1) = c.val / 2 ^ (r.val + 1) ↔ y.val / 2 ^ r.val = c.val / 2 ^ r.val ∨ y.val / 2 ^ r.val = (peer r c).val / 2 ^ r.val)
      ∧ ¬ (y.val / 2 ^ r.val = c.val / 2 ^ r.val ∧ y.val / 2 ^ r.val = (peer r c).val / 2 ^ r.val) := by
  revert y; revert c; revert r; decide +kernel

/-- Before the first round these are the device's own keys. -/
theorem owned_zero (c : Dev nD) : owned 0 c = Finset.univ.map (key c) := by
  have hc : c.val < 32 := c.isLt
  ext j
  simp only [owned, Finset.mem_filter, Finset.mem_univ, true_and, Finset.mem_map, pow_zero, Nat.div_one]
  constructor
  · intro h
    exact ⟨⟨j.val % 128, by omega⟩, Fin.ext (show 128 * c.val + j.val % 128 = j.val by omega)⟩
  · rintro ⟨t, rfl⟩
    show (128 * c.val + t.val) / 128 = c.val
    omega

/-- A round adds the partner's keys, -/
theorem owned_succ (r : Fin 5) (c : Dev nD) : owned (r.val + 1) c = owned r.val c ∪ owned r.val (peer r c) := by
  ext j
  simp only [owned, Finset.mem_filter, Finset.mem_univ, true_and, Finset.mem_union]
  exact (agree r c ⟨j.val / 128, by omega⟩).1

/-- none of which the device had. -/
theorem owned_disjoint (r : Fin 5) (c : Dev nD) : Disjoint (owned r.val c) (owned r.val (peer r c)) := by
  rw [Finset.disjoint_left]
  intro j h h'
  simp only [owned, Finset.mem_filter, Finset.mem_univ, true_and] at h h'
  exact (agree r c ⟨j.val / 128, by omega⟩).2 ⟨h, h'⟩

/-- After five rounds these are all the keys. -/
theorem owned_all (c : Dev nD) : owned 5 c = Finset.univ := by
  have hc : c.val < 32 := c.isLt
  ext j
  simp only [owned, Finset.mem_filter, Finset.mem_univ, true_and, iff_true]
  have : j.val < 4096 := j.isLt
  omega

section Rounds
variable {D : Inputs Ideal} {A : Args} (hP : Parts D A)

/-- The state before the first round is the local partials. -/
theorem st_zero (D : Inputs Ideal) (c : Dev nD) : st D 0 c = ⟨localO D c, localML D c⟩ := by rw [st]

/-- The rows of the local partials. -/
theorem localML_max (D : Inputs Ideal) (c : Dev nD) (n : Fin 16) (i : Fin 128) :
    localML D c (ix3 0 n i) = headM (hOf n) (qAt D c (bOf n)) (kAt D c (bOf n) (hOf n)) (ix3 0 0 i) := by
  unfold localML; exact if_pos rfl
/-- The row of a local sum. -/
theorem localML_sum (D : Inputs Ideal) (c : Dev nD) (n : Fin 16) (i : Fin 128) :
    localML D c (ix3 1 n i) = headL (hOf n) (qAt D c (bOf n)) (kAt D c (bOf n) (hOf n)) (ix3 0 0 i) := by
  unfold localML; exact if_neg Nat.one_ne_zero
/-- The row of a local output. -/
theorem localO_row (D : Inputs Ideal) (c : Dev nD) (n : Fin 16) (i : Fin 128) (d : Fin 64) :
    localO D c (ix3 n i d) = headO (hOf n) (qAt D c (bOf n)) (kAt D c (bOf n) (hOf n)) (vAt D c (bOf n) (hOf n)) (ix3 0 i d) := by
  unfold localO; rfl

include hP in
/-- After `r` rounds a device's state is that of the keys it has taken in. -/
theorem st_acc (r : ℕ) (hr : r ≤ 5) (c : Dev nD) (n : Fin 16) (i : Fin 128) (d : Fin 64) :
    IsAcc (score A (bOf n) (hOf n) i) (val A (bOf n) (hOf n) d) (owned r c)
      ((st D r c).ml (ix3 0 n i)) ((st D r c).ml (ix3 1 n i)) ((st D r c).o (ix3 n i d)) := by
  induction r generalizing c with
  | zero =>
    have e := head_acc hP c (bOf n) (hOf n) i d
    rw [← owned_zero] at e
    rw [st_zero]
    simp only [localML_max, localML_sum, localO_row]
    exact e
  | succ r ih =>
    have e := owned_succ ⟨r, hr⟩ c
    have e' := st_succ D ⟨r, hr⟩ c
    simp only at e e'
    rw [e, e']
    exact step_acc _ _ n i (owned_disjoint ⟨r, hr⟩ c) (ih (by omega) c) (ih (by omega) _)

include hP in
/-- After the last round it is that of all the keys. -/
theorem st_last (c : Dev nD) (n : Fin 16) (i : Fin 128) (d : Fin 64) :
    (st D 5 c).ml (ix3 1 n i) = total A (bOf n) (hOf n) i ∧ (st D 5 c).o (ix3 n i d) = weighted A (bOf n) (hOf n) i d := by
  have e := st_acc hP 5 le_rfl c n i d
  rw [owned_all] at e
  exact of_acc _ _ _ _ e

end Rounds

/-! ## The result -/

section Result
variable {D : Inputs Ideal} {A : Args} (hP : Parts D A) (c : Dev nD) (b : Fin 2) (i : Fin 128)

/-- The row of the partial outputs that batch element `b` and head `h` have. -/
def rowBH (b : Fin 2) (h : Fin 8) : Fin 16 := ⟨8 * b.val + h.val, by omega⟩

/-- That row's batch element and -/
theorem bOf_rowBH (h : Fin 8) : bOf (rowBH b h) = b := Fin.ext (by simp only [bOf, rowBH]; omega)
/-- its head. -/
theorem hOf_rowBH (h : Fin 8) : hOf (rowBH b h) = h := Fin.ext (by simp only [hOf, rowBH]; omega)

include hP in
/-- The sum by which the last merge divides. -/
theorem last_sum (h : Fin 8) : stL (st D 4 c) (st D 4 (peer 4 c)) (ix2 (rowBH b h) i) = total A b h i := by
  have e := (st_last hP c (rowBH b h) i 0).1
  rw [show st D 5 c = _ from st_succ D 4 c, step_sum, bOf_rowBH, hOf_rowBH] at e
  exact e

include hP in
/-- The outputs that the last merge leaves. -/
theorem last_out (s t : Fin 4) (h : Fin 8) (d : Fin 64) (e : rowOf s t = rowBH b h) :
    merged s (stA (st D 4 c) (st D 4 (peer 4 c))) (stB (st D 4 c) (st D 4 (peer 4 c))) (chunkA (st D 4 c) s) (chunkB (st D 4 (peer 4 c)) s) (ix3 t i d)
      = weighted A b h i d := by
  have e' := (st_last hP c (rowBH b h) i d).2
  rw [show st D 5 c = _ from st_succ D 4 c, step_out, merged_apply, rowOf_sOf, bOf_rowBH, hOf_rowBH, ← e] at e'
  rw [merged_apply]
  exact e'

include hP in
/-- The attention the device computes. -/
theorem attRowsAt_apply (e : Fin 512) : attRowsAt D c b (ix2 i e) = att A b i e := by
  have e1 : attRowsAt D c b (ix2 i e) = attHead (hd e) (normAt D c b (s0Of b) (s1Of b)) (ix2 i (cp e)) := by
    have : attRowsAt D c b (ix2 i e) = attAt D c (ix2 ⟨128 * b.val + i.val, by omega⟩ e) := by pointwise [attRowsAt]
    rw [this]
    have hb : bRow ⟨128 * b.val + i.val, by omega⟩ = b := Fin.ext (by simp only [bRow]; omega)
    have hi : iRow ⟨128 * b.val + i.val, by omega⟩ = i := Fin.ext (by simp only [iRow]; omega)
    show attHead (hCol e) (normAt D c (bRow ⟨128 * b.val + i.val, by omega⟩) (s0Of (bRow ⟨128 * b.val + i.val, by omega⟩))
      (s1Of (bRow ⟨128 * b.val + i.val, by omega⟩))) (ix2 (iRow ⟨128 * b.val + i.val, by omega⟩) (dCol e)) = _
    rw [hb, hi]; rfl
  rw [e1]
  unfold normAt
  pointwise [attHead, normed]
  have el := last_sum hP c b i (hd e)
  unfold rowBH at el
  rw [el]
  unfold att
  congr 1
  split
  · exact last_out hP c b i _ _ (hd e) (cp e) (Fin.ext (by simp only [rowOf, rowBH, s0Of]; omega))
  · exact last_out hP c b i _ _ (hd e) (cp e) (Fin.ext (by simp only [rowOf, rowBH, s1Of]; omega))

include hP in
/-- The kernel's result on every device. -/
theorem outAt_apply (n : Fin 512) : outAt D c (ix3 b i n) = result A b i n := by
  show outRows (attRowsAt D c b) (woAt D c) (ix3 0 i n) = _
  pointwise [outRows]
  simp only [attRowsAt_apply hP, woAt_apply, hP.wo]
  rfl

end Result

end Cert.KernelIdealProof

end
-- ==== Proof.RefValue.lean ====
/-
# What the reference computes

At exact arithmetic: its loop takes the keys in four runs of 1024, and its state after each is that of the keys taken so far.
-/
module

public import proofs.«01_k».proof.Proof.Gen.ReferenceIdeal.Run
public import proofs.«01_k».proof.Proof.Attention
public import Idealize.ShloMosaic.Lib.Pointwise

@[expose] public section

set_option maxRecDepth 16384

noncomputable section

namespace Cert.ReferenceIdealProof

open Cert.ReferenceIdeal Cert.ReferenceIdeal.Gen Cert.ReferenceIdeal.Value Cert.Softmax Cert.Attention
open Idealize.ShloMosaic Idealize.ShloMosaic.TcCoe

/-! ## The loop, by its state -/

/-- The state of the loop: maxima, sums, outputs. -/
structure Acc where
  m : FVec Ideal S2x8x128x1 .f32
  l : FVec Ideal S2x8x128x1 .f32
  o : FVec Ideal S2x128x8x64 .f32

/-- The queries. -/
def queries (x : FVec Ideal S2x128x512 .f32) (wq : FVec Ideal S512x512 .f32) : FVec Ideal S2x128x8x64 .f32 :=
  shapeCast _ (Host.dotGeneral dot_S2x128x512_S512x512_S2x128x512_2_0_01_1_n_n none x wq) shapeCasts_S2x128x512_S2x128x8x64

/-- The scaled scores of one run of keys. -/
def runScores (q : FVec Ideal S2x128x8x64 .f32) (k : FVec Ideal S2x1024x8x64 .f32) : FVec Ideal S2x8x128x1024 .f32 :=
  mulf (Host.dotGeneral dot_S2x128x8x64_S2x1024x8x64_S2x8x128x1024_3_3_1_1_02_02 none q k)
    (broadcastInDim S2x8x128x1024 ![] bcast_S_S2x8x128x1024 (constant S_ .f32 0x3E000000#32))

/-- The maxima with one run taken in, -/
def runMax (m : FVec Ideal S2x8x128x1 .f32) (s : FVec Ideal S2x8x128x1024 .f32) : FVec Ideal S2x8x128x1 .f32 :=
  maximumf m (broadcastInDim S2x8x128x1 ![0, 1, 2] bcast_S2x8x128_S2x8x128x1_0_1_2
    (Host.reduce FloatOps.maximumf s (constant S_ .f32 0xFF800000#32) reducesTo_S2x8x128x1024_S2x8x128_d3 h_S_))
/-- the weights of the run, -/
def runWeights (s : FVec Ideal S2x8x128x1024 .f32) (m : FVec Ideal S2x8x128x1 .f32) : FVec Ideal S2x8x128x1024 .f32 :=
  Host.exp (subf s (broadcastInDim S2x8x128x1024 ![0, 1, 2, 3] bcast_S2x8x128x1_S2x8x128x1024_0_1_2_3 m))
/-- the sums, -/
def runSum (l al : FVec Ideal S2x8x128x1 .f32) (p : FVec Ideal S2x8x128x1024 .f32) : FVec Ideal S2x8x128x1 .f32 :=
  addf (mulf l al) (broadcastInDim S2x8x128x1 ![0, 1, 2] bcast_S2x8x128_S2x8x128x1_0_1_2
    (Host.reduceAdd p (constant S_ .f32 0x00000000#32) reducesTo_S2x8x128x1024_S2x8x128_d3 h_S_))
/-- and the outputs. -/
def runOut (o : FVec Ideal S2x128x8x64 .f32) (al : FVec Ideal S2x8x128x1 .f32) (p : FVec Ideal S2x8x128x1024 .f32) (v : FVec Ideal S2x1024x8x64 .f32) :
    FVec Ideal S2x128x8x64 .f32 :=
  addf (mulf o (broadcastInDim S2x128x8x64 ![0, 1, 2, 3] bcast_S2x128x8x1_S2x128x8x64_0_1_2_3
      (transpose S2x128x8x1 [0, 2, 1, 3] al transposes_S2x8x128x1_S2x128x8x1_0_2_1_3)))
    (transpose S2x128x8x64 [0, 3, 1, 2] (Host.dotGeneral dot_S2x1024x8x64_S2x8x128x1024_S2x8x64x128_1_3_3_2_02_01 none v p)
      transposes_S2x8x64x128_S2x128x8x64_0_3_1_2)

/-- One pass of the loop. -/
def pass (q : FVec Ideal S2x128x8x64 .f32) (k v : FVec Ideal S2x1024x8x64 .f32) (a : Acc) : Acc where
  m := runMax a.m (runScores q k)
  l := runSum a.l (Host.exp (subf a.m (runMax a.m (runScores q k)))) (runWeights (runScores q k) (runMax a.m (runScores q k)))
  o := runOut a.o (Host.exp (subf a.m (runMax a.m (runScores q k)))) (runWeights (runScores q k) (runMax a.m (runScores q k))) v

/-- The state the loop starts from. -/
def start : Acc where
  m := broadcastInDim S2x8x128x1 ![] bcast_S_S2x8x128x1 (constant S_ .f32 0xFF800000#32)
  l := broadcastInDim S2x8x128x1 ![] bcast_S_S2x8x128x1 (constant S_ .f32 0x00000000#32)
  o := broadcastInDim S2x128x8x64 ![] bcast_S_S2x128x8x64 (constant S_ .f32 0x00000000#32)

/-- The outputs divided by the sums, -/
def quotient (a : Acc) : FVec Ideal S2x128x512 .f32 :=
  shapeCast _ (Host.divf a.o (broadcastInDim S2x128x8x64 ![0, 1, 2, 3] bcast_S2x128x8x1_S2x128x8x64_0_1_2_3
    (transpose S2x128x8x1 [0, 2, 1, 3] a.l transposes_S2x8x128x1_S2x128x8x1_0_2_1_3))) shapeCasts_S2x128x8x64_S2x128x512
/-- times the last matrix. -/
def finish (a : Acc) (wo : FVec Ideal S512x512 .f32) : FVec Ideal S2x128x512 .f32 :=
  Host.dotGeneral dot_S2x128x512_S512x512_S2x128x512_2_0_01_1_n_n none (quotient a) wo

/-- The four runs of an array of keys or values. -/
def run0 (k : FVec Ideal S2x4096x8x64 .f32) : FVec Ideal S2x1024x8x64 .f32 := extractStridedSlice S2x1024x8x64 ![0, 0, 0, 0] k slices_S2x4096x8x64_S2x1024x8x64_0_0_0_0
/-- The second run. -/
def run1 (k : FVec Ideal S2x4096x8x64 .f32) : FVec Ideal S2x1024x8x64 .f32 := extractStridedSlice S2x1024x8x64 ![0, 1024, 0, 0] k slices_S2x4096x8x64_S2x1024x8x64_0_1024_0_0
/-- The third run. -/
def run2 (k : FVec Ideal S2x4096x8x64 .f32) : FVec Ideal S2x1024x8x64 .f32 := extractStridedSlice S2x1024x8x64 ![0, 2048, 0, 0] k slices_S2x4096x8x64_S2x1024x8x64_0_2048_0_0
/-- The fourth run. -/
def run3 (k : FVec Ideal S2x4096x8x64 .f32) : FVec Ideal S2x1024x8x64 .f32 := extractStridedSlice S2x1024x8x64 ![0, 3072, 0, 0] k slices_S2x4096x8x64_S2x1024x8x64_0_3072_0_0

/-- The loop. -/
def loop (x : FVec Ideal S2x128x512 .f32) (wq : FVec Ideal S512x512 .f32) (k v : FVec Ideal S2x4096x8x64 .f32) : Acc :=
  pass (queries x wq) (run3 k) (run3 v) (pass (queries x wq) (run2 k) (run2 v) (pass (queries x wq) (run1 k) (run1 v) (pass (queries x wq) (run0 k) (run0 v) start)))

/-- The reference's result is the loop's, finished. -/
theorem res_eq (m : (ℓ : Loc nD τ sig) → Buf (Elt Ideal) ℓ) (c : Dev nD) :
    res_main_v101 m c = finish (loop (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := by
  unfold res_main_v101; rfl

/-! ## One pass, by index -/

variable (b : Fin 2) (h : Fin 8) (i : Fin 128)

/-- The scores of a run, by index. -/
theorem runScores_apply (q : FVec Ideal S2x128x8x64 .f32) (k : FVec Ideal S2x1024x8x64 .f32) (t : Fin 1024) :
    runScores q k (ix4 b h i t) = (∑ d, q (ix4 b i h d) * k (ix4 b t h d)) * scale := by
  pointwise [runScores]

/-- The new maxima, by index. -/
theorem runMax_apply (m : FVec Ideal S2x8x128x1 .f32) (s : FVec Ideal S2x8x128x1024 .f32) :
    runMax m s (ix4 b h i 0) = max (m (ix4 b h i 0) : EReal) (Finset.univ.sup fun t => (s (ix4 b h i t) : EReal)) := by
  pointwise [runMax]
  rw [fold_max]

/-- The weights of a run, by index. -/
theorem runWeights_apply (m : FVec Ideal S2x8x128x1 .f32) (s : FVec Ideal S2x8x128x1024 .f32) (t : Fin 1024) :
    runWeights s m (ix4 b h i t) = Ideal.exp (s (ix4 b h i t) - m (ix4 b h i 0)) := by
  pointwise [runWeights]

/-- The new sums, by index. -/
theorem runSum_apply (l al : FVec Ideal S2x8x128x1 .f32) (p : FVec Ideal S2x8x128x1024 .f32) :
    runSum l al p (ix4 b h i 0) = l (ix4 b h i 0) * al (ix4 b h i 0) + ∑ t, p (ix4 b h i t) := by
  pointwise [runSum]

/-- The new outputs, by index. -/
theorem runOut_apply (o : FVec Ideal S2x128x8x64 .f32) (al : FVec Ideal S2x8x128x1 .f32) (p : FVec Ideal S2x8x128x1024 .f32) (v : FVec Ideal S2x1024x8x64 .f32) (d : Fin 64) :
    runOut o al p v (ix4 b i h d) = o (ix4 b i h d) * al (ix4 b h i 0) + ∑ t, v (ix4 b t h d) * p (ix4 b h i t) := by
  pointwise [runOut]

/-- The factor that rescales the earlier state, by index. -/
theorem factor_apply (m m' : FVec Ideal S2x8x128x1 .f32) :
    Host.exp (subf m m') (ix4 b h i 0) = Ideal.exp (m (ix4 b h i 0) - m' (ix4 b h i 0)) := by
  pointwise

/-- The queries, by index. -/
theorem queries_apply (x : FVec Ideal S2x128x512 .f32) (wq : FVec Ideal S512x512 .f32) (d : Fin 64) :
    queries x wq (ix4 b i h d) = ∑ e, x (ix3 b i e) * wq (ix2 e (col h d)) := by
  rw [show col h d = ⟨h.val * 64 + d.val, by omega⟩ from Fin.ext (by simp only [col]; omega)]
  pointwise [queries]

/-- The keys of the first run, by index; -/
theorem run0_apply (k : FVec Ideal S2x4096x8x64 .f32) (t : Fin 1024) (d : Fin 64) : run0 k (ix4 b t h d) = k (ix4 b ⟨1024 * 0 + t.val, by omega⟩ h d) := by
  pointwise [run0]
/-- of the second; -/
theorem run1_apply (k : FVec Ideal S2x4096x8x64 .f32) (t : Fin 1024) (d : Fin 64) : run1 k (ix4 b t h d) = k (ix4 b ⟨1024 * 1 + t.val, by omega⟩ h d) := by
  pointwise [run1]
/-- of the third; -/
theorem run2_apply (k : FVec Ideal S2x4096x8x64 .f32) (t : Fin 1024) (d : Fin 64) : run2 k (ix4 b t h d) = k (ix4 b ⟨1024 * 2 + t.val, by omega⟩ h d) := by
  pointwise [run2]
/-- of the fourth. -/
theorem run3_apply (k : FVec Ideal S2x4096x8x64 .f32) (t : Fin 1024) (d : Fin 64) : run3 k (ix4 b t h d) = k (ix4 b ⟨1024 * 3 + t.val, by omega⟩ h d) := by
  pointwise [run3]

/-- The quotient, by index: its columns are split into head and component. -/
theorem quotient_apply (a : Acc) (e : Fin 512) :
    quotient a (ix3 b i e) = Ideal.div (a.o (ix4 b i (hd e) (cp e))) (a.l (ix4 b (hd e) i 0)) := by
  pointwise [quotient]
  rfl

/-- The last product, by index. -/
theorem finish_apply (a : Acc) (wo : FVec Ideal S512x512 .f32) (n : Fin 512) :
    finish a wo (ix3 b i n) = ∑ e, quotient a (ix3 b i e) * wo (ix2 e n) := by
  pointwise [finish]

/-- The loop starts from minus infinity -/
theorem start_max : start.m (ix4 b h i 0) = (⊥ : EReal) := by
  pointwise [start]
  exact neg_inf
/-- and zero -/
theorem start_sum : start.l (ix4 b h i 0) = (0 : EReal) := by pointwise [start]
/-- and zero. -/
theorem start_out (d : Fin 64) : start.o (ix4 b i h d) = (0 : EReal) := by pointwise [start]

/-! ## One pass takes in one run -/

/-- Key `t` of run `r`. -/
def runKey (r : Fin 4) : Fin 1024 ↪ Fin 4096 :=
  ⟨fun t => ⟨1024 * r.val + t.val, by omega⟩, fun a b e => by
    have := congrArg Fin.val e; simp only at this; exact Fin.ext (by omega)⟩

/-- The keys of the first `r` runs. -/
def below (r : ℕ) : Finset (Fin 4096) := Finset.univ.filter fun j => j.val < 1024 * r

/-- The next run is taken in, -/
theorem below_succ (r : Fin 4) : below (r.val + 1) = below r.val ∪ Finset.univ.map (runKey r) := by
  ext j
  simp only [below, Finset.mem_filter, Finset.mem_univ, true_and, Finset.mem_union, Finset.mem_map]
  constructor
  · intro hj
    by_cases h0 : j.val < 1024 * r.val
    · exact Or.inl h0
    · exact Or.inr ⟨⟨j.val - 1024 * r.val, by omega⟩, Fin.ext (show 1024 * r.val + (j.val - 1024 * r.val) = j.val by omega)⟩
  · rintro (h0 | ⟨t, rfl⟩)
    · omega
    · show 1024 * r.val + t.val < 1024 * (r.val + 1)
      omega

/-- and was not there before. -/
theorem below_disjoint (r : Fin 4) : Disjoint (below r.val) (Finset.univ.map (runKey r)) := by
  rw [Finset.disjoint_left]
  intro j h0 h1
  simp only [below, Finset.mem_filter, Finset.mem_univ, true_and, Finset.mem_map] at h0 h1
  obtain ⟨t, rfl⟩ := h1
  have : 1024 * r.val + t.val < 1024 * r.val := h0
  omega

/-- Before the first run there are no keys; -/
theorem below_zero : below 0 = ∅ := by
  ext j; simp [below]

/-- after the fourth there are all. -/
theorem below_all : below 4 = Finset.univ := by
  ext j
  simp only [below, Finset.mem_filter, Finset.mem_univ, true_and, iff_true]
  have : j.val < 4096 := j.isLt
  omega

variable {A : Args}

/-- A pass over run `r` from the state of the runs before it. -/
theorem pass_acc (r : Fin 4) (q : FVec Ideal S2x128x8x64 .f32) (k v : FVec Ideal S2x1024x8x64 .f32) (a : Acc) (d : Fin 64)
    (hq : ∀ b i h d, q (ix4 b i h d) = query A b i (col h d)) (hk : ∀ b t h d, k (ix4 b t h d) = A.k b (runKey r t) h d)
    (hv : ∀ b t h d, v (ix4 b t h d) = A.v b (runKey r t) h d)
    (ha : IsAcc (score A b h i) (val A b h d) (below r.val) (a.m (ix4 b h i 0)) (a.l (ix4 b h i 0)) (a.o (ix4 b i h d))) :
    IsAcc (score A b h i) (val A b h d) (below (r.val + 1)) ((pass q k v a).m (ix4 b h i 0)) ((pass q k v a).l (ix4 b h i 0)) ((pass q k v a).o (ix4 b i h d)) := by
  have hs : ∀ t, runScores q k (ix4 b h i t) = score A b h i (runKey r t) := fun t => by
    rw [runScores_apply]; simp only [hq, hk]; rfl
  have hm : (pass q k v a).m (ix4 b h i 0) = max (a.m (ix4 b h i 0) : EReal) ((Finset.univ.map (runKey r)).sup (score A b h i)) := by
    rw [Finset.sup_map]
    show runMax a.m (runScores q k) (ix4 b h i 0) = _
    rw [runMax_apply]; simp only [hs]; rfl
  have hl : (pass q k v a).l (ix4 b h i 0) = a.l (ix4 b h i 0) * Ideal.exp (a.m (ix4 b h i 0) - (pass q k v a).m (ix4 b h i 0))
      + ∑ j ∈ Finset.univ.map (runKey r), Ideal.exp (score A b h i j - (pass q k v a).m (ix4 b h i 0)) := by
    rw [Finset.sum_map]
    show runSum a.l _ _ (ix4 b h i 0) = _
    rw [runSum_apply, factor_apply]
    simp only [runWeights_apply, hs]
    rfl
  have ho : (pass q k v a).o (ix4 b i h d) = a.o (ix4 b i h d) * Ideal.exp (a.m (ix4 b h i 0) - (pass q k v a).m (ix4 b h i 0))
      + ∑ j ∈ Finset.univ.map (runKey r), val A b h d j * Ideal.exp (score A b h i j - (pass q k v a).m (ix4 b h i 0)) := by
    rw [Finset.sum_map]
    show runOut a.o _ _ v (ix4 b i h d) = _
    rw [runOut_apply, factor_apply]
    simp only [runWeights_apply, hs, hv]
    rfl
  rw [below_succ, hl, ho]
  exact ha.extend (below_disjoint r) hm

/-- The program's arrays are the whole arguments. -/
structure Wholes (x : FVec Ideal S2x128x512 .f32) (wq : FVec Ideal S512x512 .f32) (k v : FVec Ideal S2x4096x8x64 .f32) (wo : FVec Ideal S512x512 .f32) (A : Args) : Prop where
  x : ∀ b i e, x (ix3 b i e) = A.x b i e
  wq : ∀ e n, wq (ix2 e n) = A.wq e n
  k : ∀ b j h d, k (ix4 b j h d) = A.k b j h d
  v : ∀ b j h d, v (ix4 b j h d) = A.v b j h d
  wo : ∀ e n, wo (ix2 e n) = A.wo e n

section Loop
variable {x : FVec Ideal S2x128x512 .f32} {wq : FVec Ideal S512x512 .f32} {k v : FVec Ideal S2x4096x8x64 .f32} {wo : FVec Ideal S512x512 .f32}
  (W : Wholes x wq k v wo A)
include W

/-- The loop ends in the state of all the keys. -/
theorem loop_acc (d : Fin 64) : IsAcc (score A b h i) (val A b h d) Finset.univ
    ((loop x wq k v).m (ix4 b h i 0)) ((loop x wq k v).l (ix4 b h i 0)) ((loop x wq k v).o (ix4 b i h d)) := by
  have hq : ∀ b i h d, queries x wq (ix4 b i h d) = query A b i (col h d) := fun b i h d => by
    rw [queries_apply]; simp only [W.x, W.wq]; rfl
  have h0 : IsAcc (score A b h i) (val A b h d) (below 0) (start.m (ix4 b h i 0)) (start.l (ix4 b h i 0)) (start.o (ix4 b i h d)) := by
    rw [below_zero, start_max, start_sum, start_out]; exact IsAcc.empty _ _
  have h1 := pass_acc b h i 0 (queries x wq) (run0 k) (run0 v) _ d hq (fun b t h d => (run0_apply b h k t d).trans (W.k _ _ _ _)) (fun b t h d => (run0_apply b h v t d).trans (W.v _ _ _ _)) h0
  have h2 := pass_acc b h i 1 (queries x wq) (run1 k) (run1 v) _ d hq (fun b t h d => (run1_apply b h k t d).trans (W.k _ _ _ _)) (fun b t h d => (run1_apply b h v t d).trans (W.v _ _ _ _)) h1
  have h3 := pass_acc b h i 2 (queries x wq) (run2 k) (run2 v) _ d hq (fun b t h d => (run2_apply b h k t d).trans (W.k _ _ _ _)) (fun b t h d => (run2_apply b h v t d).trans (W.v _ _ _ _)) h2
  have h4 := pass_acc b h i 3 (queries x wq) (run3 k) (run3 v) _ d hq (fun b t h d => (run3_apply b h k t d).trans (W.k _ _ _ _)) (fun b t h d => (run3_apply b h v t d).trans (W.v _ _ _ _)) h3
  rw [← below_all]
  exact h4

/-- The reference's result. -/
theorem finish_loop (n : Fin 512) : finish (loop x wq k v) wo (ix3 b i n) = result A b i n := by
  rw [finish_apply]
  unfold result
  refine Finset.sum_congr rfl fun e _ => ?_
  rw [quotient_apply, W.wo]
  have t := of_acc A b (hd e) i (loop_acc b (hd e) i W (cp e))
  unfold att
  rw [← t.1, ← t.2]

end Loop

end Cert.ReferenceIdealProof

end
-- ==== Proof.Algebraic.lean ====
/-
# The value of the kernel

At exact arithmetic every device of the kernel ends with the reference's result: both are the attention of the whole arguments.
-/
module

public import proofs.«01_k».proof.Proof.Frames
public import proofs.«01_k».proof.Proof.KernelValue
public import proofs.«01_k».proof.Proof.RefValue
public import Idealize.ShloMosaic.Lib.LayoutAt

@[expose] public section

set_option maxRecDepth 16384

noncomputable section

namespace Cert.KernelIdealProof

open Idealize.ShloMosaic Idealize.ShloMosaic.TcCoe Idealize.SL.Sem Cert.Attention

/-- A device's block of an array of keys or values, by index. -/
theorem block_key (X : (⟨4, ![2, 4096, 8, 64]⟩ : Shape).Idx → EReal) (c : Fin 32) (b : Fin 2) (t : Fin 128) (h : Fin 8) (d : Fin 64) :
    Layout.block ⟨4, ![2, 128, 8, 64]⟩ ⟨4, ![2, 4096, 8, 64]⟩ 1 32 c X (by decide) (ix4 b t h d) = X (ix4 b (key c t) h d) := by
  have hk : (key c t).val = 128 * c.val + t.val := rfl
  rw [Layout.block_apply]
  shard_ext

section Whole

variable (m' : (ℓ : Loc Cert.ReferenceIdeal.nD Cert.ReferenceIdeal.τ Cert.ReferenceIdeal.sig) → Buf (Elt Ideal) ℓ)

/-- The whole arguments, as the reference has them. -/
def args : Args where
  x b i e := m' (((0 : Dev Cert.ReferenceIdeal.nD).tc : Thread Cert.ReferenceIdeal.nD Cert.ReferenceIdeal.τ).loc Cert.ReferenceIdeal.main_arg0) (ix3 b i e)
  wq e n := m' (((0 : Dev Cert.ReferenceIdeal.nD).tc : Thread Cert.ReferenceIdeal.nD Cert.ReferenceIdeal.τ).loc Cert.ReferenceIdeal.main_arg1) (ix2 e n)
  k b j h d := m' (((0 : Dev Cert.ReferenceIdeal.nD).tc : Thread Cert.ReferenceIdeal.nD Cert.ReferenceIdeal.τ).loc Cert.ReferenceIdeal.main_arg2) (ix4 b j h d)
  v b j h d := m' (((0 : Dev Cert.ReferenceIdeal.nD).tc : Thread Cert.ReferenceIdeal.nD Cert.ReferenceIdeal.τ).loc Cert.ReferenceIdeal.main_arg3) (ix4 b j h d)
  wo e n := m' (((0 : Dev Cert.ReferenceIdeal.nD).tc : Thread Cert.ReferenceIdeal.nD Cert.ReferenceIdeal.τ).loc Cert.ReferenceIdeal.main_arg4) (ix2 e n)

/-- The reference's result is the attention of the whole arguments. -/
theorem ref_result (b : Fin 2) (i : Fin 128) (n : Fin 512) :
    Cert.ReferenceIdeal.Value.res_main_v101 m' 0 (ix3 b i n) = result (args m') b i n := by
  rw [Cert.ReferenceIdealProof.res_eq]
  exact Cert.ReferenceIdealProof.finish_loop b i (W := ⟨fun _ _ _ => rfl, fun _ _ => rfl, fun _ _ _ _ => rfl, fun _ _ _ _ => rfl, fun _ _ => rfl⟩) n

end Whole

/-- Every device of the kernel ends with the reference's result, and the arguments of both end unchanged. -/
theorem algebraic : Cert.algebraic_KernelIdeal_ReferenceIdeal := by
  intro m g m' g' _ hin
  have parts : Parts (ins m) (args m') :=
    { x := fun c b i e => congrFun ((ins_x m c).trans (hin c).1) (ix3 b i e)
      wq := fun c e n => congrFun ((ins_wq m c).trans (hin c).2.1) (ix2 e n)
      wo := fun c e n => congrFun ((ins_wo m c).trans (hin c).2.2.2.2) (ix2 e n)
      k := fun c b t h d => (congrFun ((ins_k m c).trans (hin c).2.2.1) (ix4 b t h d)).trans (block_key _ c b t h d)
      v := fun c b t h d => (congrFun ((ins_v m c).trans (hin c).2.2.2.1) (ix4 b t h d)).trans (block_key _ c b t h d) }
  have same : ∀ c, outAt (ins m) c = Cert.ReferenceIdeal.Value.res_main_v101 m' 0 := fun c => by
    funext j
    rw [eq_ix3 j]
    exact (outAt_apply parts c _ _ _).trans (ref_result m' _ _ _).symm
  refine ⟨Cert.ReferenceIdeal.Value.res_main_v101 m' 0, ?_, ?_⟩
  · exact (θ_run Cert.KernelIdeal.defs _ _).mono
      (fun _ h c => ⟨((h.1 c (5 : Fin 6)).trans (final_out m g c)).trans (same c), args_stay m g h.1 c⟩) (run_main (F := Ideal) m g)
  · exact (θ_run Cert.ReferenceIdeal.defs _ _).mono (fun _ h => h 0) (Cert.ReferenceIdeal.Value.run m' g')

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdealProof.frame_kernel, Cert.KernelIdealProof.frame_ideal, Cert.KernelIdealProof.frame_reference, trivial,
  Cert.KernelIdealProof.algebraic⟩

end Cert.Proof

end
